-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_gate_finite [hPre_gate_finite : Cert.Pre_gate_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gate_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gate_finite [hPre_gate_finite : Cert.Pre_gate_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gate_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_gate_finite [hKernel3Ideal : Cert.Kernel3Ideal.Facts] [hPre_gate_finite : Cert.Pre_gate_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_gate_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_gate_finite [hReference3Ideal : Cert.Reference3Ideal.Facts] [hPre_gate_finite : Cert.Pre_gate_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gate_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_gate_finite [hKernel3Ideal : Cert.Kernel3Ideal.Facts] [hReference3Ideal : Cert.Reference3Ideal.Facts] [hPre_gate_finite : Cert.Pre_gate_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_gate_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v66_0)) (v1 : (c : Dev Cert.Kernel3Ideal.nD) → Buf (Elt Ideal) ((c.tc : Thread Cert.Kernel3Ideal.nD Cert.Kernel3Ideal.τ).loc Cert.Kernel3Ideal.main_v66_1)) (v2 : (c : Dev Cert.Kernel3Ideal.nD) → Buf (Elt Ideal) ((c.tc : Thread Cert.Kernel3Ideal.nD Cert.Kernel3Ideal.τ).loc Cert.Kernel3Ideal.main_v66_2)) (v3 : (c : Dev Cert.Kernel3Ideal.nD) → Buf (Elt Ideal) ((c.tc : Thread Cert.Kernel3Ideal.nD Cert.Kernel3Ideal.τ).loc Cert.Kernel3Ideal.main_v66_3)) (v4 : (c : Dev Cert.Kernel3Ideal.nD) → Buf (Elt Ideal) ((c.tc : Thread Cert.Kernel3Ideal.nD Cert.Kernel3Ideal.τ).loc Cert.Kernel3Ideal.main_v66_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v66_0) = v0 c
          ∧ r.2.mem ((c.tc : Thread Cert.Kernel3Ideal.nD Cert.Kernel3Ideal.τ).loc Cert.Kernel3Ideal.main_v66_1) = v1 c
          ∧ r.2.mem ((c.tc : Thread Cert.Kernel3Ideal.nD Cert.Kernel3Ideal.τ).loc Cert.Kernel3Ideal.main_v66_2) = v2 c
          ∧ r.2.mem ((c.tc : Thread Cert.Kernel3Ideal.nD Cert.Kernel3Ideal.τ).loc Cert.Kernel3Ideal.main_v66_3) = v3 c
          ∧ r.2.mem ((c.tc : Thread Cert.Kernel3Ideal.nD Cert.Kernel3Ideal.τ).loc Cert.Kernel3Ideal.main_v66_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v287) = v0 c
          ∧ r.2.mem ((c.tc : Thread Cert.Reference3Ideal.nD Cert.Reference3Ideal.τ).loc Cert.Reference3Ideal.main_v288) = v1 c
          ∧ r.2.mem ((c.tc : Thread Cert.Reference3Ideal.nD Cert.Reference3Ideal.τ).loc Cert.Reference3Ideal.main_v291) = v2 c
          ∧ r.2.mem ((c.tc : Thread Cert.Reference3Ideal.nD Cert.Reference3Ideal.τ).loc Cert.Reference3Ideal.main_v324) = v3 c
          ∧ r.2.mem ((c.tc : Thread Cert.Reference3Ideal.nD Cert.Reference3Ideal.τ).loc Cert.Reference3Ideal.main_v325) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v104) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_all_finite : Cert.Pre_all_finite.Facts) (hPre_gate_finite : Cert.Pre_gate_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_gate_finite (hKernel3Ideal := hKernel3Ideal) (hPre_gate_finite := hPre_gate_finite)
    ∧ quiescent_Reference3Ideal (hReference3Ideal := hReference3Ideal)
    ∧ quiescent_Reference3Ideal_pre_gate_finite (hReference3Ideal := hReference3Ideal) (hPre_gate_finite := hPre_gate_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_gate_finite (hKernel3Ideal := hKernel3Ideal) (hReference3Ideal := hReference3Ideal) (hPre_gate_finite := hPre_gate_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_all_finite.lean ====
abbrev S8x17x512x256 : Shape := ⟨4, ![8, 17, 512, 256]⟩
abbrev S8x4352x512 : Shape := ⟨3, ![8, 4352, 512]⟩
abbrev S2x64 : Shape := ⟨2, ![2, 64]⟩
abbrev S1x128 : Shape := ⟨2, ![1, 128]⟩
abbrev S_ : Shape := ⟨0, ![]⟩

class Facts : Prop where
  bitsLt_bf16_f32 : FTy.bits .bf16 < FTy.bits .f32
  bcast_S_S8x17x512x256 : S_.BroadcastsInDim S8x17x512x256 (![] : Fin 0 → Fin S8x17x512x256.rank)
  reducesTo_S8x17x512x256_S_d0_1_2_3 : S8x17x512x256.ReducesTo [0, 1, 2, 3] S_
  h_S_ : 0 < S_.numel
  bcast_S_S8x4352x512 : S_.BroadcastsInDim S8x4352x512 (![] : Fin 0 → Fin S8x4352x512.rank)
  reducesTo_S8x4352x512_S_d0_1_2 : S8x4352x512.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part1 {F : FTy → Type} [FloatOps F] (main_arg4 : FVec F S2x64 .f32) (main_v16 : IVec S_ 1) (main_v17 : FVec F S2x64 .f32) : IVec S_ 1 :=
  let main_cst_4 : FVec F S_ .f32 := constant S_ .f32 0x7F800000#32
  let main_v18 : FVec F S2x64 .f32 := broadcastInDim S2x64 ![] bcast_S_S2x64 main_cst_4
  let main_v19 : IVec S2x64 1 := cmpf .olt main_v17 main_v18
  let main_c_5 : IVec S_ 1 := constantI S_ 1 1#1
  let main_v20 : IVec S_ 1 := (fun x v => Host.reduce IntOp.andi x v reducesTo_S2x64_S_d0_1 h_S_) main_v19 main_c_5
  let main_v21 : IVec S_ 1 := andi main_v16 main_v20
  let main_v22 : FVec F S2x64 .f32 := Host.absf main_arg4
  let main_cst_6 : FVec F S_ .f32 := constant S_ .f32 0x7F800000#32
  let main_v23 : FVec F S2x64 .f32 := broadcastInDim S2x64 ![] bcast_S_S2x64 main_cst_6
  let main_v24 : IVec S2x64 1 := cmpf .olt main_v22 main_v23
  let main_c_7 : IVec S_ 1 := constantI S_ 1 1#1
  let main_v25 : IVec S_ 1 := (fun x v => Host.reduce IntOp.andi x v reducesTo_S2x64_S_d0_1 h_S_) main_v24 main_c_7
  let main_v26 : IVec S_ 1 := andi main_v21 main_v25
  main_v26

def fn {F : FTy → Type} [FloatOps F] (main_arg0 : FVec F S8x17x512x256 .bf16) (main_arg1 : FVec F S8x4352x512 .bf16) (main_arg2 : FVec F S8x17x512x256 .bf16) (main_arg3 : FVec F S2x64 .f32) (main_arg4 : FVec F S2x64 .f32) (main_arg5 : FVec F S1x128 .f32) : IVec S_ 1 :=
  let main_v0 : FVec F S8x17x512x256 .f32 := (extf .f32 · bitsLt_bf16_f32) main_arg0
  let main_v1 : FVec F S8x17x512x256 .f32 := Host.absf main_v0
  let main_cst : FVec F S_ .f32 := constant S_ .f32 0x7F800000#32
  let main_v2 : FVec F S8x17x512x256 .f32 := broadcastInDim S8x17x512x256 ![] bcast_S_S8x17x512x256 main_cst
  let main_v3 : IVec S8x17x512x256 1 := cmpf .olt main_v1 main_v2
  let main_c : IVec S_ 1 := constantI S_ 1 1#1
  let main_v4 : IVec S_ 1 := (fun x v => Host.reduce IntOp.andi x v reducesTo_S8x17x512x256_S_d0_1_2_3 h_S_) main_v3 main_c
  let main_v5 : FVec F S8x4352x512 .f32 := (extf .f32 · bitsLt_bf16_f32) main_arg1
  let main_v6 : FVec F S8x4352x512 .f32 := Host.absf main_v5
  let main_cst_0 : FVec F S_ .f32 := constant S_ .f32 0x7F800000#32
  let main_v7 : FVec F S8x4352x512 .f32 := broadcastInDim S8x4352x512 ![] bcast_S_S8x4352x512 main_cst_0
  let main_v8 : IVec S8x4352x512 1 := cmpf .olt main_v6 main_v7
  let main_c_1 : IVec S_ 1 := constantI S_ 1 1#1
  let main_v9 : IVec S_ 1 := (fun x v => Host.reduce IntOp.andi x v reducesTo_S8x4352x512_S_d0_1_2 h_S_) main_v8 main_c_1
  let main_v10 : IVec S_ 1 := andi main_v4 main_v9
  let main_v11 : FVec F S8x17x512x256 .f32 := (extf .f32 · bitsLt_bf16_f32) main_arg2
  let main_v12 : FVec F S8x17x512x256 .f32 := Host.absf main_v11
  let main_cst_2 : FVec F S_ .f32 := constant S_ .f32 0x7F800000#32
  let main_v13 : FVec F S8x17x512x256 .f32 := broadcastInDim S8x17x512x256 ![] bcast_S_S8x17x512x256 main_cst_2
  let main_v14 : IVec S8x17x512x256 1 := cmpf .olt main_v12 main_v13
  let main_c_3 : IVec S_ 1 := constantI S_ 1 1#1
  let main_v15 : IVec S_ 1 := (fun x v => Host.reduce IntOp.andi x v reducesTo_S8x17x512x256_S_d0_1_2_3 h_S_) main_v14 main_c_3
  let main_v16 : IVec S_ 1 := andi main_v10 main_v15
  let main_v17 : FVec F S2x64 .f32 := Host.absf main_arg3
  fn_part1 (F := F) main_arg4 main_v16 main_v17
-- ==== Pre_gate_finite.lean ====
abbrev S8x4352x1024 : Shape := ⟨3, ![8, 4352, 1024]⟩
abbrev S16x6x1x1024 : Shape := ⟨4, ![16, 6, 1, 1024]⟩
abbrev S1024 : Shape := ⟨1, ![1024]⟩
abbrev S1024x2560 : Shape := ⟨2, ![1024, 2560]⟩
abbrev S256 : Shape := ⟨1, ![256]⟩
abbrev S4x128x128 : Shape := ⟨3, ![4, 128, 128]⟩
abbrev S4x128 : Shape := ⟨2, ![4, 128]⟩
abbrev S9x2x1x1024 : Shape := ⟨4, ![9, 2, 1, 1024]⟩
abbrev S_ : Shape := ⟨0, ![]⟩
abbrev S1024x256 : Shape := ⟨2, ![1024, 256]⟩

class Facts : Prop where
  slices_S16x6x1x1024_S9x2x1x1024_0_0_0_0 : S16x6x1x1024.Slices ![0, 0, 0, 0] S9x2x1x1024
  bcast_S_S9x2x1x1024 : S_.BroadcastsInDim S9x2x1x1024 (![] : Fin 0 → Fin S9x2x1x1024.rank)
  reducesTo_S9x2x1x1024_S_d0_1_2_3 : S9x2x1x1024.ReducesTo [0, 1, 2, 3] S_
  h_S_ : 0 < S_.numel
  bcast_S_S1024 : S_.BroadcastsInDim S1024 (![] : Fin 0 → Fin S1024.rank)
  reducesTo_S1024_S_d0 : S1024.ReducesTo [0] S_
  slices_S1024x2560_S1024x256_0_2304 : S1024x2560.Slices ![0, 2304] S1024x256
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S8x4352x1024 .f32) (main_arg1 : FVec F S16x6x1x1024 .f32) (main_arg2 : FVec F S1024 .f32) (main_arg3 : FVec F S1024x2560 .f32) (main_arg4 : FVec F S256 .f32) (main_arg5 : FVec F S4x128x128 .f32) (main_arg6 : FVec F S4x128 .f32) : IVec S_ 1 :=
  let main_v0 : FVec F S9x2x1x1024 .f32 := (extractStridedSlice S9x2x1x1024 ![0, 0, 0, 0] · slices_S16x6x1x1024_S9x2x1x1024_0_0_0_0) main_arg1
  let main_v1 : FVec F S9x2x1x1024 .f32 := Host.absf main_v0
  let main_cst : FVec F S_ .f32 := constant S_ .f32 0x7F800000#32
  let main_v2 : FVec F S9x2x1x1024 .f32 := broadcastInDim S9x2x1x1024 ![] bcast_S_S9x2x1x1024 main_cst
  let main_v3 : IVec S9x2x1x1024 1 := cmpf .olt main_v1 main_v2
  let main_c : IVec S_ 1 := constantI S_ 1 1#1
  let main_v4 : IVec S_ 1 := (fun x v => Host.reduce IntOp.andi x v reducesTo_S9x2x1x1024_S_d0_1_2_3 h_S_) main_v3 main_c
  let main_v5 : FVec F S1024 .f32 := Host.absf main_arg2
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_c_1 : IVec S_ 1 := constantI S_ 1 1#1
  let main_v8 : IVec S_ 1 := (fun x v => Host.reduce IntOp.andi x v reducesTo_S1024_S_d0 h_S_) main_v7 main_c_1
  let main_v9 : IVec S_ 1 := andi main_v4 main_v8
  let main_v10 : FVec F S1024x256 .f32 := (extractStridedSlice S1024x256 ![0, 2304] · slices_S1024x2560_S1024x256_0_2304) main_arg3
  let main_v11 : FVec F S1024x256 .f32 := Host.absf main_v10
  let main_cst_2 : FVec F S_ .f32 := constant S_ .f32 0x7F800000#32
  let main_v12 : FVec F S1024x256 .f32 := broadcastInDim S1024x256 ![] bcast_S_S1024x256 main_cst_2
  let main_v13 : IVec S1024x256 1 := cmpf .olt main_v11 main_v12
  let main_c_3 : IVec S_ 1 := constantI S_ 1 1#1
  let main_v14 : IVec S_ 1 := (fun x v => Host.reduce IntOp.andi x v reducesTo_S1024x256_S_d0_1 h_S_) main_v13 main_c_3
  let main_v15 : IVec S_ 1 := andi main_v9 main_v14
  main_v15
-- ==== Kernel.lean ====
abbrev S8x17x512x256 : Shape := ⟨4, ![8, 17, 512, 256]⟩
abbrev S8x4352x512 : Shape := ⟨3, ![8, 4352, 512]⟩
abbrev S2x64 : Shape := ⟨2, ![2, 64]⟩
abbrev S1x128 : Shape := ⟨2, ![1, 128]⟩
abbrev S1x1x128x256 : Shape := ⟨4, ![1, 1, 128, 256]⟩
abbrev S1x4352x128 : Shape := ⟨3, ![1, 4352, 128]⟩
abbrev S1x17x128x256 : Shape := ⟨4, ![1, 17, 128, 256]⟩
abbrev S1x256x128 : Shape := ⟨3, ![1, 256, 128]⟩
abbrev S128x512 : Shape := ⟨2, ![128, 512]⟩
abbrev S1x512 : Shape := ⟨2, ![1, 512]⟩
abbrev S128x256 : Shape := ⟨2, ![128, 256]⟩
abbrev S256x128 : Shape := ⟨2, ![256, 128]⟩
abbrev S256x512 : Shape := ⟨2, ![256, 512]⟩
abbrev S512 : Shape := ⟨1, ![512]⟩
abbrev S1x512x128 : Shape := ⟨3, ![1, 512, 128]⟩
abbrev S512x128 : Shape := ⟨2, ![512, 128]⟩
abbrev S512x512 : Shape := ⟨2, ![512, 512]⟩
abbrev S2 : Shape := ⟨1, ![2]⟩
abbrev S2x1 : Shape := ⟨2, ![2, 1]⟩
abbrev S1x1 : Shape := ⟨2, ![1, 1]⟩
abbrev S1x256 : Shape := ⟨2, ![1, 256]⟩
abbrev S256 : Shape := ⟨1, ![256]⟩

abbrev nBuf : Space → Nat
  | .hbm => 7
  | .vmem => 14
  | .smem => 0
  | _ => 0

abbrev bufTy : (tb : Table) → Fin (tcTables nBuf tb) → BufTy
  | .hbm, ⟨0, _⟩ => ⟨S8x17x512x256, .bf16⟩
  | .hbm, ⟨1, _⟩ => ⟨S8x4352x512, .bf16⟩
  | .hbm, ⟨2, _⟩ => ⟨S8x17x512x256, .bf16⟩
  | .hbm, ⟨3, _⟩ => ⟨S2x64, .f32⟩
  | .hbm, ⟨4, _⟩ => ⟨S2x64, .f32⟩
  | .hbm, ⟨5, _⟩ => ⟨S1x128, .f32⟩
  | .hbm, ⟨6, _⟩ => ⟨S8x4352x512, .bf16⟩
  | .local _ .vmem, ⟨0, _⟩ => ⟨S1x1x128x256, .bf16⟩
  | .local _ .vmem, ⟨1, _⟩ => ⟨S1x1x128x256, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x17x128x256, .bf16⟩
  | .local _ .vmem, ⟨5, _⟩ => ⟨S1x17x128x256, .bf16⟩
  | .local _ .vmem, ⟨6, _⟩ => ⟨S2x64, .f32⟩
  | .local _ .vmem, ⟨7, _⟩ => ⟨S2x64, .f32⟩
  | .local _ .vmem, ⟨8, _⟩ => ⟨S1x128, .f32⟩
  | .local _ .vmem, ⟨9, _⟩ => ⟨S1x256x128, .bf16⟩
  | .local _ .vmem, ⟨10, _⟩ => ⟨S1x256x128, .bf16⟩
  | .local _ .vmem, ⟨11, _⟩ => ⟨S128x512, .f32⟩
  | .local _ .vmem, ⟨12, _⟩ => ⟨S1x512, .f32⟩
  | .local _ .vmem, ⟨13, _⟩ => ⟨S1x512, .f32⟩
  | _, _ => ⟨S8x17x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 4, 17], ![false, false, false]⟩

@[reducible] def k0_t1_loop (i : grid0.Coords) : Scf.Loop 32 :=
  let c0_i32_25 : BitVec 32 := 0#32
  let arg2 : BitVec 32 := BitVec.ofNat 32 (i 2).val
  let c0_i32 : BitVec 32 := 0#32
  let v0 : BitVec 32 := Scalar.addi arg2 c0_i32
  let c0_i32_22 : BitVec 32 := 0#32
  let v38 : BitVec 1 := Scalar.cmpi .eq v0 c0_i32_22
  let c0_i32_23 : BitVec 32 := 0#32
  let c8_i32 : BitVec 32 := 8#32
  let v39 : BitVec 32 := Scalar.select v38 c0_i32_23 c8_i32
  let v40 : BitVec 32 := Scalar.subi v39 c0_i32_25
  let c1_i32 : BitVec 32 := 1#32
  let v42 : BitVec 32 := Scalar.divsi v40 c1_i32
  let v43 : BitVec 32 := Scalar.muli v42 c1_i32
  let v44 : BitVec 32 := Scalar.addi c0_i32_25 v43
  let c1_i32_26 : BitVec 32 := 1#32
  ⟨c0_i32_25, v44, c1_i32_26⟩
def k0_mult1 (i : grid0.Coords) (k0_t1 : Fin (k0_t1_loop i).trips) : BitVec 32 :=
  let c256_i32 : BitVec 32 := 256#32
  let c0_i32_25 : BitVec 32 := 0#32
  let c1_i32_26 : BitVec 32 := 1#32
  let arg13 : BitVec 32 := Scf.iv c0_i32_25 c1_i32_26 k0_t1
  let c512_i32 : BitVec 32 := 512#32
  let v91 : BitVec 32 := Scalar.muli arg13 c512_i32
  let v92 : BitVec 32 := Scalar.addi c256_i32 v91
  v92
def k0_off1 (i : grid0.Coords) (k0_t1 : Fin (k0_t1_loop i).trips) : Fin 3 → Nat :=
  let c0_48 : Index := 0#32
  let c256_i32 : BitVec 32 := 256#32
  let c0_i32_25 : BitVec 32 := 0#32
  let c1_i32_26 : BitVec 32 := 1#32
  let arg13 : BitVec 32 := Scf.iv c0_i32_25 c1_i32_26 k0_t1
  let c512_i32 : BitVec 32 := 512#32
  let v91 : BitVec 32 := Scalar.muli arg13 c512_i32
  let v92 : BitVec 32 := Scalar.addi c256_i32 v91
  let v93 : BitVec 32 := v92
  let v94 : Index := Scalar.indexCast v93
  let c0_49 : Index := 0#32
  ![0, v94.toNat, 0]
def k0_off2 (i : grid0.Coords) (k0_t1 : Fin (k0_t1_loop i).trips) (c1_i32_59 : BitVec 32) : Fin 4 → Nat :=
  let c0_60 : Index := 0#32
  let c2_i32 : BitVec 32 := 2#32
  let c0_i32_25 : BitVec 32 := 0#32
  let c1_i32_26 : BitVec 32 := 1#32
  let arg13 : BitVec 32 := Scf.iv c0_i32_25 c1_i32_26 k0_t1
  let v115 : BitVec 32 := Scalar.muli c2_i32 arg13
  let v116 : BitVec 32 := Scalar.addi v115 c1_i32_59
  let v117 : Index := Scalar.indexCast v116
  let c0_61 : Index := 0#32
  let c0_62 : Index := 0#32
  ![0, v117.toNat, 0, 0]
@[reducible] def k0_t2_loop (i : grid0.Coords) : Scf.Loop 32 :=
  let c0_i32_25 : BitVec 32 := 0#32
  let arg2 : BitVec 32 := BitVec.ofNat 32 (i 2).val
  let c0_i32 : BitVec 32 := 0#32
  let v0 : BitVec 32 := Scalar.addi arg2 c0_i32
  let c0_i32_22 : BitVec 32 := 0#32
  let v38 : BitVec 1 := Scalar.cmpi .eq v0 c0_i32_22
  let c0_i32_23 : BitVec 32 := 0#32
  let c8_i32 : BitVec 32 := 8#32
  let v39 : BitVec 32 := Scalar.select v38 c0_i32_23 c8_i32
  let v40 : BitVec 32 := Scalar.subi v39 c0_i32_25
  let c1_i32 : BitVec 32 := 1#32
  let v42 : BitVec 32 := Scalar.divsi v40 c1_i32
  let v43 : BitVec 32 := Scalar.muli v42 c1_i32
  let v44 : BitVec 32 := Scalar.addi c0_i32_25 v43
  let v41 : BitVec 32 := Scalar.addi c0_i32_25 v40
  let c1_i32_27 : BitVec 32 := 1#32
  ⟨v44, v41, c1_i32_27⟩
def k0_mult2 (i : grid0.Coords) (k0_t2 : Fin (k0_t2_loop i).trips) : BitVec 32 :=
  let c256_i32 : BitVec 32 := 256#32
  let c0_i32_25 : BitVec 32 := 0#32
  let arg2 : BitVec 32 := BitVec.ofNat 32 (i 2).val
  let c0_i32 : BitVec 32 := 0#32
  let v0 : BitVec 32 := Scalar.addi arg2 c0_i32
  let c0_i32_22 : BitVec 32 := 0#32
  let v38 : BitVec 1 := Scalar.cmpi .eq v0 c0_i32_22
  let c0_i32_23 : BitVec 32 := 0#32
  let c8_i32 : BitVec 32 := 8#32
  let v39 : BitVec 32 := Scalar.select v38 c0_i32_23 c8_i32
  let v40 : BitVec 32 := Scalar.subi v39 c0_i32_25
  let c1_i32 : BitVec 32 := 1#32
  let v42 : BitVec 32 := Scalar.divsi v40 c1_i32
  let v43 : BitVec 32 := Scalar.muli v42 c1_i32
  let v44 : BitVec 32 := Scalar.addi c0_i32_25 v43
  let c1_i32_27 : BitVec 32 := 1#32
  let arg13 : BitVec 32 := Scf.iv v44 c1_i32_27 k0_t2
  let c512_i32 : BitVec 32 := 512#32
  let v91 : BitVec 32 := Scalar.muli arg13 c512_i32
  let v92 : BitVec 32 := Scalar.addi c256_i32 v91
  v92
def k0_off3 (i : grid0.Coords) (k0_t2 : Fin (k0_t2_loop i).trips) : Fin 3 → Nat :=
  let c0_48 : Index := 0#32
  let c256_i32 : BitVec 32 := 256#32
  let c0_i32_25 : BitVec 32 := 0#32
  let arg2 : BitVec 32 := BitVec.ofNat 32 (i 2).val
  let c0_i32 : BitVec 32 := 0#32
  let v0 : BitVec 32 := Scalar.addi arg2 c0_i32
  let c0_i32_22 : BitVec 32 := 0#32
  let v38 : BitVec 1 := Scalar.cmpi .eq v0 c0_i32_22
  let c0_i32_23 : BitVec 32 := 0#32
  let c8_i32 : BitVec 32 := 8#32
  let v39 : BitVec 32 := Scalar.select v38 c0_i32_23 c8_i32
  let v40 : BitVec 32 := Scalar.subi v39 c0_i32_25
  let c1_i32 : BitVec 32 := 1#32
  let v42 : BitVec 32 := Scalar.divsi v40 c1_i32
  let v43 : BitVec 32 := Scalar.muli v42 c1_i32
  let v44 : BitVec 32 := Scalar.addi c0_i32_25 v43
  let c1_i32_27 : BitVec 32 := 1#32
  let arg13 : BitVec 32 := Scf.iv v44 c1_i32_27 k0_t2
  let c512_i32 : BitVec 32 := 512#32
  let v91 : BitVec 32 := Scalar.muli arg13 c512_i32
  let v92 : BitVec 32 := Scalar.addi c256_i32 v91
  let v93 : BitVec 32 := v92
  let v94 : Index := Scalar.indexCast v93
  let c0_49 : Index := 0#32
  ![0, v94.toNat, 0]
def k0_off4 (i : grid0.Coords) (k0_t2 : Fin (k0_t2_loop i).trips) (c1_i32_59 : BitVec 32) : Fin 4 → Nat :=
  let c0_60 : Index := 0#32
  let c2_i32 : BitVec 32 := 2#32
  let c0_i32_25 : BitVec 32 := 0#32
  let arg2 : BitVec 32 := BitVec.ofNat 32 (i 2).val
  let c0_i32 : BitVec 32 := 0#32
  let v0 : BitVec 32 := Scalar.addi arg2 c0_i32
  let c0_i32_22 : BitVec 32 := 0#32
  let v38 : BitVec 1 := Scalar.cmpi .eq v0 c0_i32_22
  let c0_i32_23 : BitVec 32 := 0#32
  let c8_i32 : BitVec 32 := 8#32
  let v39 : BitVec 32 := Scalar.select v38 c0_i32_23 c8_i32
  let v40 : BitVec 32 := Scalar.subi v39 c0_i32_25
  let c1_i32 : BitVec 32 := 1#32
  let v42 : BitVec 32 := Scalar.divsi v40 c1_i32
  let v43 : BitVec 32 := Scalar.muli v42 c1_i32
  let v44 : BitVec 32 := Scalar.addi c0_i32_25 v43
  let c1_i32_27 : BitVec 32 := 1#32
  let arg13 : BitVec 32 := Scf.iv v44 c1_i32_27 k0_t2
  let v115 : BitVec 32 := Scalar.muli c2_i32 arg13
  let v116 : BitVec 32 := Scalar.addi v115 c1_i32_59
  let v117 : Index := Scalar.indexCast v116
  let c0_61 : Index := 0#32
  let c0_62 : Index := 0#32
  ![0, v117.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg0.toNat, v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat, arg1.toNat]

abbrev stage0_0 : Fin 2 → Memref sig .tc .vmem S1x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x17x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8x17x512x256 : Shape := ⟨4, ![8, 17, 512, 256]⟩
abbrev S8x4352x512 : Shape := ⟨3, ![8, 4352, 512]⟩
abbrev S2x64 : Shape := ⟨2, ![2, 64]⟩
abbrev S1x128 : Shape := ⟨2, ![1, 128]⟩
abbrev S8x17x256x512 : Shape := ⟨4, ![8, 17, 256, 512]⟩
abbrev S8x4352x8x64 : Shape := ⟨4, ![8, 4352, 8, 64]⟩
abbrev S8x4352x4x128 : Shape := ⟨4, ![8, 4352, 4, 128]⟩
abbrev S1x64 : Shape := ⟨2, ![1, 64]⟩
abbrev S64 : Shape := ⟨1, ![64]⟩
abbrev S_ : Shape := ⟨0, ![]⟩
abbrev S8x4096x8x64 : Shape := ⟨4, ![8, 4096, 8, 64]⟩
abbrev S8x256x8x64 : Shape := ⟨4, ![8, 256, 8, 64]⟩
abbrev S8x256x4x128 : Shape := ⟨4, ![8, 256, 4, 128]⟩
abbrev S8x4096x4x64 : Shape := ⟨4, ![8, 4096, 4, 64]⟩
abbrev S8x4352x4x64 : Shape := ⟨4, ![8, 4352, 4, 64]⟩
abbrev S8x4x4096x4352 : Shape := ⟨4, ![8, 4, 4096, 4352]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S8x4096x4x128 : Shape := ⟨4, ![8, 4096, 4, 128]⟩
abbrev S8x256x4x64 : Shape := ⟨4, ![8, 256, 4, 64]⟩
abbrev S8x4x256x256 : Shape := ⟨4, ![8, 4, 256, 256]⟩
abbrev S8x4x256 : Shape := ⟨3, ![8, 4, 256]⟩
abbrev S8x4x256x1 : Shape := ⟨4, ![8, 4, 256, 1]⟩
abbrev S8x4x128x256 : Shape := ⟨4, ![8, 4, 128, 256]⟩
abbrev S128 : Shape := ⟨1, ![128]⟩
abbrev S8x256x4 : Shape := ⟨3, ![8, 256, 4]⟩
abbrev S8x256x4x1 : Shape := ⟨4, ![8, 256, 4, 1]⟩
abbrev S1x1x1x128 : Shape := ⟨4, ![1, 1, 1, 128]⟩
abbrev S8x256x512 : Shape := ⟨3, ![8, 256, 512]⟩
abbrev S8x4096x4 : Shape := ⟨3, ![8, 4096, 4]⟩
abbrev S8x4096x4x1 : Shape := ⟨4, ![8, 4096, 4, 1]⟩
abbrev S8x4096x512 : Shape := ⟨3, ![8, 4096, 512]⟩

abbrev nBuf : Space → Nat
  | .hbm => 161
  | .vmem => 0
  | .smem => 0
  | _ => 0

abbrev hbmTy0_0 (i : Nat) : BufTy := match i % 128 with
  | 0 => ⟨S8x17x512x256, .bf16⟩
  | 1 => ⟨S8x4352x512, .bf16⟩
  | 2 => ⟨S8x17x512x256, .bf16⟩
  | 3 => ⟨S2x64, .f32⟩
  | 4 => ⟨S2x64, .f32⟩
  | 5 => ⟨S1x128, .f32⟩
  | 6 => ⟨S8x17x512x256, .f32⟩
  | 7 => ⟨S8x17x256x512, .f32⟩
  | 8 => ⟨S8x4352x512, .f32⟩
  | 9 => ⟨S8x4352x8x64, .f32⟩
  | 10 => ⟨S8x4352x512, .f32⟩
  | 11 => ⟨S8x4352x8x64, .f32⟩
  | 12 => ⟨S8x17x512x256, .f32⟩
  | 13 => ⟨S8x17x256x512, .f32⟩
  | 14 => ⟨S8x4352x512, .f32⟩
  | 15 => ⟨S8x4352x4x128, .f32⟩
  | 16 => ⟨S1x64, .f32⟩
  | 17 => ⟨S64, .f32⟩
  | 18 => ⟨S1x64, .f32⟩
  | 19 => ⟨S64, .f32⟩
  | 20 => ⟨S64, .f32⟩
  | 21 => ⟨S_, .f32⟩
  | 22 => ⟨S_, .f32⟩
  | 23 => ⟨S_, .f32⟩
  | 24 => ⟨S1x64, .f32⟩
  | 25 => ⟨S64, .f32⟩
  | 26 => ⟨S1x64, .f32⟩
  | 27 => ⟨S64, .f32⟩
  | 28 => ⟨S64, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S8x4096x8x64, .f32⟩
  | 36 => ⟨S8x256x8x64, .f32⟩
  | 37 => ⟨S8x256x8x64, .f32⟩
  | 38 => ⟨S8x256x4x128, .f32⟩
  | 39 => ⟨S8x4096x4x64, .f32⟩
  | 40 => ⟨S8x4096x4x64, .f32⟩
  | 41 => ⟨S8x4352x4x64, .f32⟩
  | 42 => ⟨S8x4352x4x64, .f32⟩
  | 43 => ⟨S8x4x4096x4352, .f32⟩
  | 44 => ⟨S8x4x4096x4352, .f32⟩
  | 45 => ⟨S_, .f32⟩
  | 46 => ⟨S8x4x4096, .f32⟩
  | 47 => ⟨S_, .f32⟩
  | 48 => ⟨S8x4x4096, .f32⟩
  | 49 => ⟨S8x4x4096, .f32⟩
  | 50 => ⟨S8x4x4096x1, .f32⟩
  | 51 => ⟨S8x4x4096x4352, .f32⟩
  | 52 => ⟨S8x4x4096x4352, .f32⟩
  | 53 => ⟨S8x4x4096x4352, .f32⟩
  | 54 => ⟨S_, .f32⟩
  | 55 => ⟨S8x4x4096, .f32⟩
  | 56 => ⟨S8x4x4096x1, .f32⟩
  | 57 => ⟨S8x4x4096x4352, .f32⟩
  | 58 => ⟨S8x4x4096x4352, .f32⟩
  | 59 => ⟨S_, .f32⟩
  | 60 => ⟨S8x4x4096, .f32⟩
  | 61 => ⟨S_, .f32⟩
  | 62 => ⟨S8x4x4096, .f32⟩
  | 63 => ⟨S8x4x4096, .f32⟩
  | 64 => ⟨S8x4x4096x1, .f32⟩
  | 65 => ⟨S8x4x4096x4352, .f32⟩
  | 66 => ⟨S8x4x4096x4352, .f32⟩
  | 67 => ⟨S8x4x4096x4352, .f32⟩
  | 68 => ⟨S_, .f32⟩
  | 69 => ⟨S8x4x4096, .f32⟩
  | 70 => ⟨S8x4x4096x1, .f32⟩
  | 71 => ⟨S8x4x4096x4352, .f32⟩
  | 72 => ⟨S8x4x4096x4352, .f32⟩
  | 73 => ⟨S8x4x4096x4352, .f32⟩
  | 74 => ⟨S8x4x4096x4352, .f32⟩
  | 75 => ⟨S8x4x4096x4352, .f32⟩
  | 76 => ⟨S8x4x128x4096, .f32⟩
  | 77 => ⟨S8x4096x4x128, .f32⟩
  | 78 => ⟨S8x256x4x64, .f32⟩
  | 79 => ⟨S8x256x4x64, .f32⟩
  | 80 => ⟨S8x256x4x64, .f32⟩
  | 81 => ⟨S8x256x4x64, .f32⟩
  | 82 => ⟨S8x4x256x256, .f32⟩
  | 83 => ⟨S8x4x256x256, .f32⟩
  | 84 => ⟨S_, .f32⟩
  | 85 => ⟨S8x4x256, .f32⟩
  | 86 => ⟨S_, .f32⟩
  | 87 => ⟨S8x4x256, .f32⟩
  | 88 => ⟨S8x4x256, .f32⟩
  | 89 => ⟨S8x4x256x1, .f32⟩
  | 90 => ⟨S8x4x256x256, .f32⟩
  | 91 => ⟨S8x4x256x256, .f32⟩
  | 92 => ⟨S8x4x256x256, .f32⟩
  | 93 => ⟨S_, .f32⟩
  | 94 => ⟨S8x4x256, .f32⟩
  | 95 => ⟨S8x4x256x1, .f32⟩
  | 96 => ⟨S8x4x256x256, .f32⟩
  | 97 => ⟨S8x4x256x256, .f32⟩
  | 98 => ⟨S_, .f32⟩
  | 99 => ⟨S8x4x256, .f32⟩
  | 100 => ⟨S_, .f32⟩
  | 101 => ⟨S8x4x256, .f32⟩
  | 102 => ⟨S8x4x256, .f32⟩
  | 103 => ⟨S8x4x256x1, .f32⟩
  | 104 => ⟨S8x4x256x256, .f32⟩
  | 105 => ⟨S8x4x256x256, .f32⟩
  | 106 => ⟨S8x4x256x256, .f32⟩
  | 107 => ⟨S_, .f32⟩
  | 108 => ⟨S8x4x256, .f32⟩
  | 109 => ⟨S8x4x256x1, .f32⟩
  | 110 => ⟨S8x4x256x256, .f32⟩
  | 111 => ⟨S8x4x256x256, .f32⟩
  | 112 => ⟨S8x4x256x256, .f32⟩
  | 113 => ⟨S8x4x256x256, .f32⟩
  | 114 => ⟨S8x4x256x256, .f32⟩
  | 115 => ⟨S8x4x128x256, .f32⟩
  | 116 => ⟨S8x256x4x128, .f32⟩
  | 117 => ⟨S128, .f32⟩
  | 118 => ⟨S8x256x4x128, .f32⟩
  | 119 => ⟨S_, .f32⟩
  | 120 => ⟨S8x256x4, .f32⟩
  | 121 => ⟨S8x256x4x1, .f32⟩
  | 122 => ⟨S_, .f32⟩
  | 123 => ⟨S8x256x4x1, .f32⟩
  | 124 => ⟨S8x256x4x1, .f32⟩
  | 125 => ⟨S_, .f32⟩
  | 126 => ⟨S8x256x4x1, .f32⟩
  | 127 => ⟨S8x256x4x1, .f32⟩
  | _ => ⟨S8x17x512x256, .bf16⟩

abbrev hbmTy0_1 (i : Nat) : BufTy := match i % 128 with
  | 0 => ⟨S8x256x4x1, .f32⟩
  | 1 => ⟨S8x256x4x128, .f32⟩
  | 2 => ⟨S8x256x4x128, .f32⟩
  | 3 => ⟨S1x1x1x128, .f32⟩
  | 4 => ⟨S8x256x4x128, .f32⟩
  | 5 => ⟨S8x256x4x128, .f32⟩
  | 6 => ⟨S_, .f32⟩
  | 7 => ⟨S8x256x4x128, .f32⟩
  | 8 => ⟨S8x256x4x128, .f32⟩
  | 9 => ⟨S8x256x512, .f32⟩
  | 10 => ⟨S128, .f32⟩
  | 11 => ⟨S8x4096x4x128, .f32⟩
  | 12 => ⟨S_, .f32⟩
  | 13 => ⟨S8x4096x4, .f32⟩
  | 14 => ⟨S8x4096x4x1, .f32⟩
  | 15 => ⟨S_, .f32⟩
  | 16 => ⟨S8x4096x4x1, .f32⟩
  | 17 => ⟨S8x4096x4x1, .f32⟩
  | 18 => ⟨S_, .f32⟩
  | 19 => ⟨S8x4096x4x1, .f32⟩
  | 20 => ⟨S8x4096x4x1, .f32⟩
  | 21 => ⟨S8x4096x4x1, .f32⟩
  | 22 => ⟨S8x4096x4x128, .f32⟩
  | 23 => ⟨S8x4096x4x128, .f32⟩
  | 24 => ⟨S1x1x1x128, .f32⟩
  | 25 => ⟨S8x4096x4x128, .f32⟩
  | 26 => ⟨S8x4096x4x128, .f32⟩
  | 27 => ⟨S_, .f32⟩
  | 28 => ⟨S8x4096x4x128, .f32⟩
  | 29 => ⟨S8x4096x4x128, .f32⟩
  | 30 => ⟨S8x4096x512, .f32⟩
  | 31 => ⟨S8x4352x512, .f32⟩
  | 32 => ⟨S8x4352x512, .bf16⟩
  | _ => ⟨S8x17x512x256, .bf16⟩

abbrev hbmTy (i : Nat) : BufTy := match i / 128 with
  | 0 => hbmTy0_0 i
  | 1 => hbmTy0_1 i
  | _ => ⟨S8x17x512x256, .bf16⟩

abbrev bufTy : (tb : Table) → Fin (tcTables nBuf tb) → BufTy
  | .hbm, ⟨i, _⟩ => hbmTy i
  | _, _ => ⟨S8x17x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_8 : Ref sig .tc := ⟨.hbm, 84, rfl⟩
abbrev main_v69 : Ref sig .tc := ⟨.hbm, 85, rfl⟩
abbrev main_cst_9 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_10 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_11 : Ref sig .tc := ⟨.hbm, 98, rfl⟩
abbrev main_v80 : Ref sig .tc := ⟨.hbm, 99, rfl⟩
abbrev main_cst_12 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_13 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_14 : Ref sig .tc := ⟨.hbm, 119, rfl⟩
abbrev main_v98 : Ref sig .tc := ⟨.hbm, 120, rfl⟩
abbrev main_v99 : Ref sig .tc := ⟨.hbm, 121, rfl⟩
abbrev main_cst_15 : Ref sig .tc := ⟨.hbm, 122, rfl⟩
abbrev main_v100 : Ref sig .tc := ⟨.hbm, 123, rfl⟩
abbrev main_v101 : Ref sig .tc := ⟨.hbm, 124, rfl⟩
abbrev main_cst_16 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_17 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_18 : Ref sig .tc := ⟨.hbm, 140, rfl⟩
abbrev main_v115 : Ref sig .tc := ⟨.hbm, 141, rfl⟩
abbrev main_v116 : Ref sig .tc := ⟨.hbm, 142, rfl⟩
abbrev main_cst_19 : Ref sig .tc := ⟨.hbm, 143, rfl⟩
abbrev main_v117 : Ref sig .tc := ⟨.hbm, 144, rfl⟩
abbrev main_v118 : Ref sig .tc := ⟨.hbm, 145, rfl⟩
abbrev main_cst_20 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_21 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩

abbrev nD : Nat := 1
abbrev τ : Topo := Topo.v7x

variable {F : FTy → Type} [FloatOps F]
-- ==== Kernel2.lean ====
abbrev S8x4352x512 : Shape := ⟨3, ![8, 4352, 512]⟩
abbrev S8x4352x256 : Shape := ⟨3, ![8, 4352, 256]⟩
abbrev S8x4352x1024 : Shape := ⟨3, ![8, 4352, 1024]⟩
abbrev S16x6x1x1024 : Shape := ⟨4, ![16, 6, 1, 1024]⟩
abbrev S1x1024 : Shape := ⟨2, ![1, 1024]⟩
abbrev S1024x1024 : Shape := ⟨2, ![1024, 1024]⟩
abbrev S1024x2816 : Shape := ⟨2, ![1024, 2816]⟩
abbrev S2816x1024 : Shape := ⟨2, ![2816, 1024]⟩
abbrev S8x4096x1024 : Shape := ⟨3, ![8, 4096, 1024]⟩
abbrev S1x256x512 : Shape := ⟨3, ![1, 256, 512]⟩
abbrev S1x256x256 : Shape := ⟨3, ![1, 256, 256]⟩
abbrev S1x256x1024 : Shape := ⟨3, ![1, 256, 1024]⟩
abbrev S1x6x1x1024 : Shape := ⟨4, ![1, 6, 1, 1024]⟩
abbrev S256x512 : Shape := ⟨2, ![256, 512]⟩
abbrev S256x256 : Shape := ⟨2, ![256, 256]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S256x2816 : Shape := ⟨2, ![256, 2816]⟩

abbrev nBuf : Space → Nat
  | .hbm => 12
  | .vmem => 18
  | .smem => 0
  | _ => 0

abbrev bufTy : (tb : Table) → Fin (tcTables nBuf tb) → BufTy
  | .hbm, ⟨0, _⟩ => ⟨S8x4352x512, .bf16⟩
  | .hbm, ⟨1, _⟩ => ⟨S8x4352x256, .bf16⟩
  | .hbm, ⟨2, _⟩ => ⟨S8x4352x256, .bf16⟩
  | .hbm, ⟨3, _⟩ => ⟨S8x4352x1024, .f32⟩
  | .hbm, ⟨4, _⟩ => ⟨S16x6x1x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S8x4096x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x1024, .f32⟩
  | .local _ .vmem, ⟨7, _⟩ => ⟨S1x256x1024, .f32⟩
  | .local _ .vmem, ⟨8, _⟩ => ⟨S1x6x1x1024, .f32⟩
  | .local _ .vmem, ⟨9, _⟩ => ⟨S1x6x1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x256x1024, .f32⟩
  | .local _ .vmem, ⟨17, _⟩ => ⟨S1x256x1024, .f32⟩
  | _, _ => ⟨S8x4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let v1 : BitVec 1 := Scalar.cmpi .eq v0 c0_i32
  let c8_i32 : BitVec 32 := 8#32
  let v2 : BitVec 32 := Scalar.select v1 c8_i32 arg0
  let c0_i32_0 : BitVec 32 := 0#32
  let c0_i32_1 : BitVec 32 := 0#32
  let c0_i32_2 : BitVec 32 := 0#32
  let c0_i32_3 : BitVec 32 := 0#32
  ![v2.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x4352x512 : Shape := ⟨3, ![8, 4352, 512]⟩
abbrev S8x4352x256 : Shape := ⟨3, ![8, 4352, 256]⟩
abbrev S8x4352x1024 : Shape := ⟨3, ![8, 4352, 1024]⟩
abbrev S16x6x1x1024 : Shape := ⟨4, ![16, 6, 1, 1024]⟩
abbrev S1x1024 : Shape := ⟨2, ![1, 1024]⟩
abbrev S1024x1024 : Shape := ⟨2, ![1024, 1024]⟩
abbrev S1024x2816 : Shape := ⟨2, ![1024, 2816]⟩
abbrev S2816x1024 : Shape := ⟨2, ![2816, 1024]⟩
abbrev S8x4096x1024 : Shape := ⟨3, ![8, 4096, 1024]⟩
abbrev S8x1x1x1024 : Shape := ⟨4, ![8, 1, 1, 1024]⟩
abbrev S8x1x1024 : Shape := ⟨3, ![8, 1, 1024]⟩
abbrev S8x4096x512 : Shape := ⟨3, ![8, 4096, 512]⟩
abbrev S8x4096x256 : Shape := ⟨3, ![8, 4096, 256]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 96
  | .vmem => 0
  | .smem => 0
  | _ => 0

abbrev bufTy : (tb : Table) → Fin (tcTables nBuf tb) → BufTy
  | .hbm, ⟨0, _⟩ => ⟨S8x4352x512, .bf16⟩
  | .hbm, ⟨1, _⟩ => ⟨S8x4352x256, .bf16⟩
  | .hbm, ⟨2, _⟩ => ⟨S8x4352x256, .bf16⟩
  | .hbm, ⟨3, _⟩ => ⟨S8x4352x1024, .f32⟩
  | .hbm, ⟨4, _⟩ => ⟨S16x6x1x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1024x1024, .f32⟩
  | .hbm, ⟨12, _⟩ => ⟨S1024x2816, .f32⟩
  | .hbm, ⟨13, _⟩ => ⟨S1024x2816, .f32⟩
  | .hbm, ⟨14, _⟩ => ⟨S2816x1024, .f32⟩
  | .hbm, ⟨15, _⟩ => ⟨S8x4096x1024, .f32⟩
  | .hbm, ⟨16, _⟩ => ⟨S8x1x1x1024, .f32⟩
  | .hbm, ⟨17, _⟩ => ⟨S8x1x1024, .f32⟩
  | .hbm, ⟨18, _⟩ => ⟨S8x1x1x1024, .f32⟩
  | .hbm, ⟨19, _⟩ => ⟨S8x1x1024, .f32⟩
  | .hbm, ⟨20, _⟩ => ⟨S8x1x1x1024, .f32⟩
  | .hbm, ⟨21, _⟩ => ⟨S8x1x1024, .f32⟩
  | .hbm, ⟨22, _⟩ => ⟨S8x1x1x1024, .f32⟩
  | .hbm, ⟨23, _⟩ => ⟨S8x1x1024, .f32⟩
  | .hbm, ⟨24, _⟩ => ⟨S8x1x1x1024, .f32⟩
  | .hbm, ⟨25, _⟩ => ⟨S8x1x1024, .f32⟩
  | .hbm, ⟨26, _⟩ => ⟨S8x1x1x1024, .f32⟩
  | .hbm, ⟨27, _⟩ => ⟨S8x1x1024, .f32⟩
  | .hbm, ⟨28, _⟩ => ⟨S8x4096x512, .bf16⟩
  | .hbm, ⟨29, _⟩ => ⟨S8x4096x512, .f32⟩
  | .hbm, ⟨30, _⟩ => ⟨S8x4096x256, .bf16⟩
  | .hbm, ⟨31, _⟩ => ⟨S8x4096x256, .f32⟩
  | .hbm, ⟨32, _⟩ => ⟨S8x4096x256, .bf16⟩
  | .hbm, ⟨33, _⟩ => ⟨S8x4096x256, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S1024, .f32⟩
  | .hbm, ⟨40, _⟩ => ⟨S8x4096x1024, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S8x4096x1, .f32⟩
  | .hbm, ⟨51, _⟩ => ⟨S8x4096x1024, .f32⟩
  | .hbm, ⟨52, _⟩ => ⟨S8x4096x1024, .f32⟩
  | .hbm, ⟨53, _⟩ => ⟨S1x1x1024, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x1x1024, .f32⟩
  | .hbm, ⟨58, _⟩ => ⟨S8x1x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S_, .f32⟩
  | .hbm, ⟨67, _⟩ => ⟨S8x4096x2816, .f32⟩
  | .hbm, ⟨68, _⟩ => ⟨S8x4096x2816, .f32⟩
  | .hbm, ⟨69, _⟩ => ⟨S_, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S1024, .f32⟩
  | .hbm, ⟨80, _⟩ => ⟨S8x4096x1024, .f32⟩
  | .hbm, ⟨81, _⟩ => ⟨S_, .f32⟩
  | .hbm, ⟨82, _⟩ => ⟨S8x4096, .f32⟩
  | .hbm, ⟨83, _⟩ => ⟨S8x4096x1, .f32⟩
  | .hbm, ⟨84, _⟩ => ⟨S_, .f32⟩
  | .hbm, ⟨85, _⟩ => ⟨S8x4096x1, .f32⟩
  | .hbm, ⟨86, _⟩ => ⟨S8x4096x1, .f32⟩
  | .hbm, ⟨87, _⟩ => ⟨S_, .f32⟩
  | .hbm, ⟨88, _⟩ => ⟨S8x4096x1, .f32⟩
  | .hbm, ⟨89, _⟩ => ⟨S8x4096x1, .f32⟩
  | .hbm, ⟨90, _⟩ => ⟨S8x4096x1, .f32⟩
  | .hbm, ⟨91, _⟩ => ⟨S8x4096x1024, .f32⟩
  | .hbm, ⟨92, _⟩ => ⟨S8x4096x1024, .f32⟩
  | .hbm, ⟨93, _⟩ => ⟨S1x1x1024, .f32⟩
  | .hbm, ⟨94, _⟩ => ⟨S8x4096x1024, .f32⟩
  | .hbm, ⟨95, _⟩ => ⟨S8x4096x1024, .f32⟩
  | _, _ => ⟨S8x4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_cst_0 : Ref sig .tc := ⟨.hbm, 44, rfl⟩
abbrev main_v32 : Ref sig .tc := ⟨.hbm, 45, rfl⟩
abbrev main_v33 : Ref sig .tc := ⟨.hbm, 46, rfl⟩
abbrev main_cst_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_3 : Ref sig .tc := ⟨.hbm, 81, rfl⟩
abbrev main_v58 : Ref sig .tc := ⟨.hbm, 82, rfl⟩
abbrev main_v59 : Ref sig .tc := ⟨.hbm, 83, rfl⟩
abbrev main_cst_4 : Ref sig .tc := ⟨.hbm, 84, rfl⟩
abbrev main_v60 : Ref sig .tc := ⟨.hbm, 85, rfl⟩
abbrev main_v61 : Ref sig .tc := ⟨.hbm, 86, rfl⟩
abbrev main_cst_5 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== Kernel3.lean ====
abbrev S8x4352x1024 : Shape := ⟨3, ![8, 4352, 1024]⟩
abbrev S16x6x1x1024 : Shape := ⟨4, ![16, 6, 1, 1024]⟩
abbrev S1024 : Shape := ⟨1, ![1024]⟩
abbrev S1024x2560 : Shape := ⟨2, ![1024, 2560]⟩
abbrev S256 : Shape := ⟨1, ![256]⟩
abbrev S4x128x128 : Shape := ⟨3, ![4, 128, 128]⟩
abbrev S4x128 : Shape := ⟨2, ![4, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S256x128 : Shape := ⟨2, ![256, 128]⟩
abbrev S4352x128 : Shape := ⟨2, ![4352, 128]⟩
abbrev S4x64x64 : Shape := ⟨3, ![4, 64, 64]⟩
abbrev S4x4 : Shape := ⟨2, ![4, 4]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S128x4x128 : Shape := ⟨3, ![128, 4, 128]⟩
abbrev S128x512 : Shape := ⟨2, ![128, 512]⟩
abbrev S128x4 : Shape := ⟨2, ![128, 4]⟩
abbrev S128x4x64 : Shape := ⟨3, ![128, 4, 64]⟩
abbrev S128x256 : Shape := ⟨2, ![128, 256]⟩
abbrev S1x1024 : Shape := ⟨2, ![1, 1024]⟩
abbrev S1x256 : Shape := ⟨2, ![1, 256]⟩
abbrev S8x17x512x256 : Shape := ⟨4, ![8, 17, 512, 256]⟩
abbrev S8x4352x512 : Shape := ⟨3, ![8, 4352, 512]⟩
abbrev S8x4352x256 : Shape := ⟨3, ![8, 4352, 256]⟩
abbrev S1x256x1024 : Shape := ⟨3, ![1, 256, 1024]⟩
abbrev S1x6x1x1024 : Shape := ⟨4, ![1, 6, 1, 1024]⟩
abbrev S1x1x512x256 : Shape := ⟨4, ![1, 1, 512, 256]⟩
abbrev S1x256x512 : Shape := ⟨3, ![1, 256, 512]⟩
abbrev S1x256x256 : Shape := ⟨3, ![1, 256, 256]⟩
abbrev S256x1024 : Shape := ⟨2, ![256, 1024]⟩
abbrev S256x1 : Shape := ⟨2, ![256, 1]⟩
abbrev S1x1x1x1024 : Shape := ⟨4, ![1, 1, 1, 1024]⟩
abbrev S256x2560 : Shape := ⟨2, ![256, 2560]⟩
abbrev S256x512 : Shape := ⟨2, ![256, 512]⟩
abbrev S512x256 : Shape := ⟨2, ![512, 256]⟩
abbrev S1x128x256 : Shape := ⟨3, ![1, 128, 256]⟩

abbrev nBuf : Space → Nat
  | .hbm => 84
  | .vmem => 24
  | .smem => 0
  | _ => 0

abbrev bufTy : (tb : Table) → Fin (tcTables nBuf tb) → BufTy
  | .hbm, ⟨0, _⟩ => ⟨S8x4352x1024, .f32⟩
  | .hbm, ⟨1, _⟩ => ⟨S16x6x1x1024, .f32⟩
  | .hbm, ⟨2, _⟩ => ⟨S1024, .f32⟩
  | .hbm, ⟨3, _⟩ => ⟨S1024x2560, .f32⟩
  | .hbm, ⟨4, _⟩ => ⟨S256, .f32⟩
  | .hbm, ⟨5, _⟩ => ⟨S4x128x128, .f32⟩
  | .hbm, ⟨6, _⟩ => ⟨S4x128, .f32⟩
  | .hbm, ⟨7, _⟩ => ⟨S64, .i32⟩
  | .hbm, ⟨8, _⟩ => ⟨S64x64, .i32⟩
  | .hbm, ⟨9, _⟩ => ⟨S4096, .i32⟩
  | .hbm, ⟨10, _⟩ => ⟨S4096, .f32⟩
  | .hbm, ⟨11, _⟩ => ⟨S64, .i32⟩
  | .hbm, ⟨12, _⟩ => ⟨S1x64, .i32⟩
  | .hbm, ⟨13, _⟩ => ⟨S64x64, .i32⟩
  | .hbm, ⟨14, _⟩ => ⟨S4096, .i32⟩
  | .hbm, ⟨15, _⟩ => ⟨S4096, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S4096x1, .f32⟩
  | .hbm, ⟨25, _⟩ => ⟨S1x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S4096x1, .f32⟩
  | .hbm, ⟨30, _⟩ => ⟨S1x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x64, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S4096x16, .f32⟩
  | .hbm, ⟨43, _⟩ => ⟨S4096x16, .f32⟩
  | .hbm, ⟨44, _⟩ => ⟨S4096x64, .f32⟩
  | .hbm, ⟨45, _⟩ => ⟨S1x4096x1x64, .f32⟩
  | .hbm, ⟨46, _⟩ => ⟨S1x4096x2x64, .f32⟩
  | .hbm, ⟨47, _⟩ => ⟨S4096x128, .f32⟩
  | .hbm, ⟨48, _⟩ => ⟨S_, .f32⟩
  | .hbm, ⟨49, _⟩ => ⟨S256x128, .f32⟩
  | .hbm, ⟨50, _⟩ => ⟨S4352x128, .f32⟩
  | .hbm, ⟨51, _⟩ => ⟨S_, .f32⟩
  | .hbm, ⟨52, _⟩ => ⟨S256x128, .f32⟩
  | .hbm, ⟨53, _⟩ => ⟨S4352x128, .f32⟩
  | .hbm, ⟨54, _⟩ => ⟨S_, .f32⟩
  | .hbm, ⟨55, _⟩ => ⟨S4x64x64, .f32⟩
  | .hbm, ⟨56, _⟩ => ⟨S4x4, .i32⟩
  | .hbm, ⟨57, _⟩ => ⟨S4x4, .i32⟩
  | .hbm, ⟨58, _⟩ => ⟨S_, .i32⟩
  | .hbm, ⟨59, _⟩ => ⟨S4x4, .i32⟩
  | .hbm, ⟨60, _⟩ => ⟨S4x4, .i32⟩
  | .hbm, ⟨61, _⟩ => ⟨S4x4, .i1⟩
  | .hbm, ⟨62, _⟩ => ⟨S4x4, .f32⟩
  | .hbm, ⟨63, _⟩ => ⟨S4x64x1x64, .f32⟩
  | .hbm, ⟨64, _⟩ => ⟨S4x1x4x1, .f32⟩
  | .hbm, ⟨65, _⟩ => ⟨S4x64x4x64, .f32⟩
  | .hbm, ⟨66, _⟩ => ⟨S4x64x4x64, .f32⟩
  | .hbm, ⟨67, _⟩ => ⟨S4x64x4x64, .f32⟩
  | .hbm, ⟨68, _⟩ => ⟨S256x256, .f32⟩
  | .hbm, ⟨69, _⟩ => ⟨S256x256, .bf16⟩
  | .hbm, ⟨70, _⟩ => ⟨S128x4x128, .f32⟩
  | .hbm, ⟨71, _⟩ => ⟨S128x512, .f32⟩
  | .hbm, ⟨72, _⟩ => ⟨S128x4, .f32⟩
  | .hbm, ⟨73, _⟩ => ⟨S128x4x64, .f32⟩
  | .hbm, ⟨74, _⟩ => ⟨S128x256, .f32⟩
  | .hbm, ⟨75, _⟩ => ⟨S1x1024, .f32⟩
  | .hbm, ⟨76, _⟩ => ⟨S1024x2560, .bf16⟩
  | .hbm, ⟨77, _⟩ => ⟨S1x256, .f32⟩
  | .hbm, ⟨78, _⟩ => ⟨S128x512, .bf16⟩
  | .hbm, ⟨79, _⟩ => ⟨S8x17x512x256, .bf16⟩
  | .hbm, ⟨80, _⟩ => ⟨S8x4352x512, .bf16⟩
  | .hbm, ⟨81, _⟩ => ⟨S8x17x512x256, .bf16⟩
  | .hbm, ⟨82, _⟩ => ⟨S8x4352x512, .f32⟩
  | .hbm, ⟨83, _⟩ => ⟨S8x4352x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S1x1024, .f32⟩
  | .local _ .vmem, ⟨5, _⟩ => ⟨S1024x2560, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x256, .f32⟩
  | .local _ .vmem, ⟨11, _⟩ => ⟨S256x256, .bf16⟩
  | .local _ .vmem, ⟨12, _⟩ => ⟨S128x512, .bf16⟩
  | .local _ .vmem, ⟨13, _⟩ => ⟨S128x256, .f32⟩
  | .local _ .vmem, ⟨14, _⟩ => ⟨S1x1x512x256, .bf16⟩
  | .local _ .vmem, ⟨15, _⟩ => ⟨S1x1x512x256, .bf16⟩
  | .local _ .vmem, ⟨16, _⟩ => ⟨S1x256x512, .bf16⟩
  | .local _ .vmem, ⟨17, _⟩ => ⟨S1x256x512, .bf16⟩
  | .local _ .vmem, ⟨18, _⟩ => ⟨S1x1x512x256, .bf16⟩
  | .local _ .vmem, ⟨19, _⟩ => ⟨S1x1x512x256, .bf16⟩
  | .local _ .vmem, ⟨20, _⟩ => ⟨S1x256x512, .f32⟩
  | .local _ .vmem, ⟨21, _⟩ => ⟨S1x256x512, .f32⟩
  | .local _ .vmem, ⟨22, _⟩ => ⟨S1x256x256, .bf16⟩
  | .local _ .vmem, ⟨23, _⟩ => ⟨S1x256x256, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_1 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66_0 : Ref sig .tc := ⟨.hbm, 79, rfl⟩
abbrev main_v66_1 : Ref sig .tc := ⟨.hbm, 80, rfl⟩
abbrev main_v66_2 : Ref sig .tc := ⟨.hbm, 81, rfl⟩
abbrev main_v66_3 : Ref sig .tc := ⟨.hbm, 82, rfl⟩
abbrev main_v66_4 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let c8_i32 : BitVec 32 := 8#32
  let v2 : BitVec 32 := Scalar.select v1 c8_i32 arg0
  let c0_i32_1 : BitVec 32 := 0#32
  let c0_i32_2 : BitVec 32 := 0#32
  let c0_i32_3 : BitVec 32 := 0#32
  let c0_i32_4 : BitVec 32 := 0#32
  ![v2.toNat, c0_i32_1.toNat, c0_i32_2.toNat, c0_i32_3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S8x4352x1024 : Shape := ⟨3, ![8, 4352, 1024]⟩
abbrev S16x6x1x1024 : Shape := ⟨4, ![16, 6, 1, 1024]⟩
abbrev S1024 : Shape := ⟨1, ![1024]⟩
abbrev S1024x2560 : Shape := ⟨2, ![1024, 2560]⟩
abbrev S256 : Shape := ⟨1, ![256]⟩
abbrev S4x128x128 : Shape := ⟨3, ![4, 128, 128]⟩
abbrev S4x128 : Shape := ⟨2, ![4, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S8x256x1024 : Shape := ⟨3, ![8, 256, 1024]⟩
abbrev S8x4096x1024 : Shape := ⟨3, ![8, 4096, 1024]⟩
abbrev S8x1x1x1024 : Shape := ⟨4, ![8, 1, 1, 1024]⟩
abbrev S8x1x1024 : Shape := ⟨3, ![8, 1, 1024]⟩
abbrev S1x1x1x1024 : Shape := ⟨4, ![1, 1, 1, 1024]⟩
abbrev S1x1024 : Shape := ⟨2, ![1, 1024]⟩
abbrev S8x4096 : Shape := ⟨2, ![8, 4096]⟩
abbrev S8x4096x1 : Shape := ⟨3, ![8, 4096, 1]⟩
abbrev S1x1x1024 : Shape := ⟨3, ![1, 1, 1024]⟩
abbrev S8x256 : Shape := ⟨2, ![8, 256]⟩
abbrev S8x256x1 : Shape := ⟨3, ![8, 256, 1]⟩
abbrev S8x4096x2560 : Shape := ⟨3, ![8, 4096, 2560]⟩
abbrev S8x256x2560 : Shape := ⟨3, ![8, 256, 2560]⟩
abbrev S8x256x512 : Shape := ⟨3, ![8, 256, 512]⟩
abbrev S8x4096x512 : Shape := ⟨3, ![8, 4096, 512]⟩
abbrev S8x4096x8x64 : Shape := ⟨4, ![8, 4096, 8, 64]⟩
abbrev S8x4096x8x32 : Shape := ⟨4, ![8, 4096, 8, 32]⟩
abbrev S8x4096x8x16 : Shape := ⟨4, ![8, 4096, 8, 16]⟩
abbrev S1x4096x1x16 : Shape := ⟨4, ![1, 4096, 1, 16]⟩
abbrev S8x4352x512 : Shape := ⟨3, ![8, 4352, 512]⟩
abbrev S8x256x256 : Shape := ⟨3, ![8, 256, 256]⟩
abbrev S8x256x4x64 : Shape := ⟨4, ![8, 256, 4, 64]⟩
abbrev S4x64 : Shape := ⟨2, ![4, 64]⟩
abbrev S8x256x4 : Shape := ⟨3, ![8, 256, 4]⟩
abbrev S8x256x4x1 : Shape := ⟨4, ![8, 256, 4, 1]⟩
abbrev S1x1x4x64 : Shape := ⟨4, ![1, 1, 4, 64]⟩
abbrev S8x2x128x4x64 : Shape := ⟨5, ![8, 2, 128, 4, 64]⟩
abbrev S4x8x2x64x128 : Shape := ⟨5, ![4, 8, 2, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S8x4096x256 : Shape := ⟨3, ![8, 4096, 256]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S8x32x128x4x64 : Shape := ⟨5, ![8, 32, 128, 4, 64]⟩
abbrev S4x8x32x64x128 : Shape := ⟨5, ![4, 8, 32, 64, 128]⟩
abbrev S8x4352x256 : Shape := ⟨3, ![8, 4352, 256]⟩
abbrev S8x17x256x512 : Shape := ⟨4, ![8, 17, 256, 512]⟩
abbrev S8x17x512x256 : Shape := ⟨4, ![8, 17, 512, 256]⟩

abbrev nBuf : Space → Nat
  | .hbm => 374
  | .vmem => 0
  | .smem => 0
  | _ => 0

abbrev hbmTy0_0 (i : Nat) : BufTy := match i % 128 with
  | 0 => ⟨S8x4352x1024, .f32⟩
  | 1 => ⟨S16x6x1x1024, .f32⟩
  | 2 => ⟨S1024, .f32⟩
  | 3 => ⟨S1024x2560, .f32⟩
  | 4 => ⟨S256, .f32⟩
  | 5 => ⟨S4x128x128, .f32⟩
  | 6 => ⟨S4x128, .f32⟩
  | 7 => ⟨S64, .i32⟩
  | 8 => ⟨S64x64, .i32⟩
  | 9 => ⟨S4096, .i32⟩
  | 10 => ⟨S4096, .f32⟩
  | 11 => ⟨S64, .i32⟩
  | 12 => ⟨S1x64, .i32⟩
  | 13 => ⟨S64x64, .i32⟩
  | 14 => ⟨S4096, .i32⟩
  | 15 => ⟨S4096, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S4096x1, .f32⟩
  | 25 => ⟨S1x16, .f32⟩
  | 26 => ⟨S4096x16, .f32⟩
  | 27 => ⟨S4096x16, .f32⟩
  | 28 => ⟨S4096x16, .f32⟩
  | 29 => ⟨S4096x1, .f32⟩
  | 30 => ⟨S1x16, .f32⟩
  | 31 => ⟨S4096x16, .f32⟩
  | 32 => ⟨S4096x16, .f32⟩
  | 33 => ⟨S4096x16, .f32⟩
  | 34 => ⟨S4096x16, .f32⟩
  | 35 => ⟨S4096x16, .f32⟩
  | 36 => ⟨S4096x16, .f32⟩
  | 37 => ⟨S4096x16, .f32⟩
  | 38 => ⟨S8x256x1024, .f32⟩
  | 39 => ⟨S8x4096x1024, .f32⟩
  | 40 => ⟨S8x1x1x1024, .f32⟩
  | 41 => ⟨S8x1x1024, .f32⟩
  | 42 => ⟨S8x1x1x1024, .f32⟩
  | 43 => ⟨S8x1x1024, .f32⟩
  | 44 => ⟨S8x1x1x1024, .f32⟩
  | 45 => ⟨S8x1x1024, .f32⟩
  | 46 => ⟨S8x1x1x1024, .f32⟩
  | 47 => ⟨S8x1x1024, .f32⟩
  | 48 => ⟨S8x1x1x1024, .f32⟩
  | 49 => ⟨S8x1x1024, .f32⟩
  | 50 => ⟨S8x1x1x1024, .f32⟩
  | 51 => ⟨S8x1x1024, .f32⟩
  | 52 => ⟨S1x1x1x1024, .f32⟩
  | 53 => ⟨S1x1024, .f32⟩
  | 54 => ⟨S1x1x1x1024, .f32⟩
  | 55 => ⟨S1x1024, .f32⟩
  | 56 => ⟨S1x1x1x1024, .f32⟩
  | 57 => ⟨S1x1024, .f32⟩
  | 58 => ⟨S1x1x1x1024, .f32⟩
  | 59 => ⟨S1x1024, .f32⟩
  | 60 => ⟨S1x1x1x1024, .f32⟩
  | 61 => ⟨S1x1024, .f32⟩
  | 62 => ⟨S1x1x1x1024, .f32⟩
  | 63 => ⟨S1x1024, .f32⟩
  | 64 => ⟨S8x4096x1024, .f32⟩
  | 65 => ⟨S_, .f32⟩
  | 66 => ⟨S8x4096, .f32⟩
  | 67 => ⟨S8x4096x1, .f32⟩
  | 68 => ⟨S_, .f32⟩
  | 69 => ⟨S8x4096x1, .f32⟩
  | 70 => ⟨S8x4096x1, .f32⟩
  | 71 => ⟨S_, .f32⟩
  | 72 => ⟨S8x4096x1, .f32⟩
  | 73 => ⟨S8x4096x1, .f32⟩
  | 74 => ⟨S8x4096x1, .f32⟩
  | 75 => ⟨S8x4096x1024, .f32⟩
  | 76 => ⟨S8x4096x1024, .f32⟩
  | 77 => ⟨S1x1x1024, .f32⟩
  | 78 => ⟨S8x4096x1024, .f32⟩
  | 79 => ⟨S8x4096x1024, .f32⟩
  | 80 => ⟨S_, .f32⟩
  | 81 => ⟨S8x1x1024, .f32⟩
  | 82 => ⟨S8x1x1024, .f32⟩
  | 83 => ⟨S8x4096x1024, .f32⟩
  | 84 => ⟨S8x4096x1024, .f32⟩
  | 85 => ⟨S8x4096x1024, .f32⟩
  | 86 => ⟨S8x4096x1024, .f32⟩
  | 87 => ⟨S8x256x1024, .f32⟩
  | 88 => ⟨S_, .f32⟩
  | 89 => ⟨S8x256, .f32⟩
  | 90 => ⟨S8x256x1, .f32⟩
  | 91 => ⟨S_, .f32⟩
  | 92 => ⟨S8x256x1, .f32⟩
  | 93 => ⟨S8x256x1, .f32⟩
  | 94 => ⟨S_, .f32⟩
  | 95 => ⟨S8x256x1, .f32⟩
  | 96 => ⟨S8x256x1, .f32⟩
  | 97 => ⟨S8x256x1, .f32⟩
  | 98 => ⟨S8x256x1024, .f32⟩
  | 99 => ⟨S8x256x1024, .f32⟩
  | 100 => ⟨S1x1x1024, .f32⟩
  | 101 => ⟨S8x256x1024, .f32⟩
  | 102 => ⟨S8x256x1024, .f32⟩
  | 103 => ⟨S_, .f32⟩
  | 104 => ⟨S1x1024, .f32⟩
  | 105 => ⟨S1x1024, .f32⟩
  | 106 => ⟨S1x1x1024, .f32⟩
  | 107 => ⟨S8x256x1024, .f32⟩
  | 108 => ⟨S8x256x1024, .f32⟩
  | 109 => ⟨S1x1x1024, .f32⟩
  | 110 => ⟨S8x256x1024, .f32⟩
  | 111 => ⟨S8x256x1024, .f32⟩
  | 112 => ⟨S8x4096x2560, .f32⟩
  | 113 => ⟨S8x256x2560, .f32⟩
  | 114 => ⟨S8x256x512, .f32⟩
  | 115 => ⟨S8x4096x512, .f32⟩
  | 116 => ⟨S8x4096x8x64, .f32⟩
  | 117 => ⟨S8x4096x8x32, .f32⟩
  | 118 => ⟨S8x4096x8x16, .f32⟩
  | 119 => ⟨S8x4096x8x16, .f32⟩
  | 120 => ⟨S1x4096x1x16, .f32⟩
  | 121 => ⟨S1x4096x1x16, .f32⟩
  | 122 => ⟨S8x4096x8x16, .f32⟩
  | 123 => ⟨S8x4096x8x16, .f32⟩
  | 124 => ⟨S8x4096x8x16, .f32⟩
  | 125 => ⟨S8x4096x8x16, .f32⟩
  | 126 => ⟨S8x4096x8x16, .f32⟩
  | 127 => ⟨S8x4096x8x16, .f32⟩
  | _ => ⟨S8x4352x1024, .f32⟩

abbrev hbmTy0_1 (i : Nat) : BufTy := match i % 128 with
  | 0 => ⟨S8x4096x8x16, .f32⟩
  | 1 => ⟨S8x4096x8x16, .f32⟩
  | 2 => ⟨S8x4096x8x16, .f32⟩
  | 3 => ⟨S8x4096x8x16, .f32⟩
  | 4 => ⟨S8x4096x8x32, .f32⟩
  | 5 => ⟨S8x4096x8x32, .f32⟩
  | 6 => ⟨S8x4096x8x16, .f32⟩
  | 7 => ⟨S8x4096x8x16, .f32⟩
  | 8 => ⟨S1x4096x1x16, .f32⟩
  | 9 => ⟨S1x4096x1x16, .f32⟩
  | 10 => ⟨S8x4096x8x16, .f32⟩
  | 11 => ⟨S8x4096x8x16, .f32⟩
  | 12 => ⟨S8x4096x8x16, .f32⟩
  | 13 => ⟨S8x4096x8x16, .f32⟩
  | 14 => ⟨S8x4096x8x16, .f32⟩
  | 15 => ⟨S8x4096x8x16, .f32⟩
  | 16 => ⟨S8x4096x8x16, .f32⟩
  | 17 => ⟨S8x4096x8x16, .f32⟩
  | 18 => ⟨S8x4096x8x16, .f32⟩
  | 19 => ⟨S8x4096x8x16, .f32⟩
  | 20 => ⟨S8x4096x8x32, .f32⟩
  | 21 => ⟨S8x4096x8x64, .f32⟩
  | 22 => ⟨S8x4096x512, .f32⟩
  | 23 => ⟨S8x4352x512, .f32⟩
  | 24 => ⟨S_, .f32⟩
  | 25 => ⟨S8x4352x512, .f32⟩
  | 26 => ⟨S8x4352x512, .f32⟩
  | 27 => ⟨S8x256x512, .f32⟩
  | 28 => ⟨S8x4096x512, .f32⟩
  | 29 => ⟨S8x4096x8x64, .f32⟩
  | 30 => ⟨S8x4096x8x32, .f32⟩
  | 31 => ⟨S8x4096x8x16, .f32⟩
  | 32 => ⟨S8x4096x8x16, .f32⟩
  | 33 => ⟨S1x4096x1x16, .f32⟩
  | 34 => ⟨S1x4096x1x16, .f32⟩
  | 35 => ⟨S8x4096x8x16, .f32⟩
  | 36 => ⟨S8x4096x8x16, .f32⟩
  | 37 => ⟨S8x4096x8x16, .f32⟩
  | 38 => ⟨S8x4096x8x16, .f32⟩
  | 39 => ⟨S8x4096x8x16, .f32⟩
  | 40 => ⟨S8x4096x8x16, .f32⟩
  | 41 => ⟨S8x4096x8x16, .f32⟩
  | 42 => ⟨S8x4096x8x16, .f32⟩
  | 43 => ⟨S8x4096x8x16, .f32⟩
  | 44 => ⟨S8x4096x8x16, .f32⟩
  | 45 => ⟨S8x4096x8x32, .f32⟩
  | 46 => ⟨S8x4096x8x32, .f32⟩
  | 47 => ⟨S8x4096x8x16, .f32⟩
  | 48 => ⟨S8x4096x8x16, .f32⟩
  | 49 => ⟨S1x4096x1x16, .f32⟩
  | 50 => ⟨S1x4096x1x16, .f32⟩
  | 51 => ⟨S8x4096x8x16, .f32⟩
  | 52 => ⟨S8x4096x8x16, .f32⟩
  | 53 => ⟨S8x4096x8x16, .f32⟩
  | 54 => ⟨S8x4096x8x16, .f32⟩
  | 55 => ⟨S8x4096x8x16, .f32⟩
  | 56 => ⟨S8x4096x8x16, .f32⟩
  | 57 => ⟨S8x4096x8x16, .f32⟩
  | 58 => ⟨S8x4096x8x16, .f32⟩
  | 59 => ⟨S8x4096x8x16, .f32⟩
  | 60 => ⟨S8x4096x8x16, .f32⟩
  | 61 => ⟨S8x4096x8x32, .f32⟩
  | 62 => ⟨S8x4096x8x64, .f32⟩
  | 63 => ⟨S8x4096x512, .f32⟩
  | 64 => ⟨S8x4352x512, .f32⟩
  | 65 => ⟨S8x256x512, .f32⟩
  | 66 => ⟨S8x4096x512, .f32⟩
  | 67 => ⟨S8x4352x512, .f32⟩
  | 68 => ⟨S8x256x256, .f32⟩
  | 69 => ⟨S8x256x256, .f32⟩
  | 70 => ⟨S8x256x256, .f32⟩
  | 71 => ⟨S_, .f32⟩
  | 72 => ⟨S8x256x256, .f32⟩
  | 73 => ⟨S8x256x256, .f32⟩
  | 74 => ⟨S8x256x256, .f32⟩
  | 75 => ⟨S_, .f32⟩
  | 76 => ⟨S8x256x256, .f32⟩
  | 77 => ⟨S8x256x256, .f32⟩
  | 78 => ⟨S8x256x256, .f32⟩
  | 79 => ⟨S_, .f32⟩
  | 80 => ⟨S8x256x256, .f32⟩
  | 81 => ⟨S8x256x256, .f32⟩
  | 82 => ⟨S_, .f32⟩
  | 83 => ⟨S8x256x256, .f32⟩
  | 84 => ⟨S8x256x256, .f32⟩
  | 85 => ⟨S8x256x256, .f32⟩
  | 86 => ⟨S8x256x256, .f32⟩
  | 87 => ⟨S8x256x256, .f32⟩
  | 88 => ⟨S8x256x256, .f32⟩
  | 89 => ⟨S_, .f32⟩
  | 90 => ⟨S8x256x256, .f32⟩
  | 91 => ⟨S8x256x256, .f32⟩
  | 92 => ⟨S8x256x256, .f32⟩
  | 93 => ⟨S_, .f32⟩
  | 94 => ⟨S8x256x256, .f32⟩
  | 95 => ⟨S8x256x256, .f32⟩
  | 96 => ⟨S8x256x256, .f32⟩
  | 97 => ⟨S_, .f32⟩
  | 98 => ⟨S8x256x256, .f32⟩
  | 99 => ⟨S8x256x256, .f32⟩
  | 100 => ⟨S_, .f32⟩
  | 101 => ⟨S8x256x256, .f32⟩
  | 102 => ⟨S8x256x256, .f32⟩
  | 103 => ⟨S8x256x256, .f32⟩
  | 104 => ⟨S8x256x4x64, .f32⟩
  | 105 => ⟨S4x64, .f32⟩
  | 106 => ⟨S8x256x4x64, .f32⟩
  | 107 => ⟨S_, .f32⟩
  | 108 => ⟨S8x256x4, .f32⟩
  | 109 => ⟨S8x256x4x1, .f32⟩
  | 110 => ⟨S_, .f32⟩
  | 111 => ⟨S8x256x4x1, .f32⟩
  | 112 => ⟨S8x256x4x1, .f32⟩
  | 113 => ⟨S_, .f32⟩
  | 114 => ⟨S8x256x4x1, .f32⟩
  | 115 => ⟨S8x256x4x1, .f32⟩
  | 116 => ⟨S8x256x4x1, .f32⟩
  | 117 => ⟨S8x256x4x64, .f32⟩
  | 118 => ⟨S8x256x4x64, .f32⟩
  | 119 => ⟨S1x1x4x64, .f32⟩
  | 120 => ⟨S8x256x4x64, .f32⟩
  | 121 => ⟨S8x256x4x64, .f32⟩
  | 122 => ⟨S8x2x128x4x64, .f32⟩
  | 123 => ⟨S4x8x2x64x128, .f32⟩
  | 124 => ⟨S8x2x128x4x64, .f32⟩
  | 125 => ⟨S128x4, .f32⟩
  | 126 => ⟨S128x4x1, .f32⟩
  | 127 => ⟨S1x1x128x4x1, .f32⟩
  | _ => ⟨S8x4352x1024, .f32⟩

abbrev hbmTy0_2 (i : Nat) : BufTy := match i % 128 with
  | 0 => ⟨S8x2x128x4x64, .f32⟩
  | 1 => ⟨S8x2x128x4x64, .f32⟩
  | 2 => ⟨S8x256x256, .f32⟩
  | 3 => ⟨S8x256x256, .f32⟩
  | 4 => ⟨S8x4096x256, .f32⟩
  | 5 => ⟨S8x4096x256, .f32⟩
  | 6 => ⟨S8x4096x256, .f32⟩
  | 7 => ⟨S_, .f32⟩
  | 8 => ⟨S8x4096x256, .f32⟩
  | 9 => ⟨S8x4096x256, .f32⟩
  | 10 => ⟨S8x4096x256, .f32⟩
  | 11 => ⟨S_, .f32⟩
  | 12 => ⟨S8x4096x256, .f32⟩
  | 13 => ⟨S8x4096x256, .f32⟩
  | 14 => ⟨S8x4096x256, .f32⟩
  | 15 => ⟨S_, .f32⟩
  | 16 => ⟨S8x4096x256, .f32⟩
  | 17 => ⟨S8x4096x256, .f32⟩
  | 18 => ⟨S_, .f32⟩
  | 19 => ⟨S8x4096x256, .f32⟩
  | 20 => ⟨S8x4096x256, .f32⟩
  | 21 => ⟨S8x4096x256, .f32⟩
  | 22 => ⟨S8x4096x256, .f32⟩
  | 23 => ⟨S8x4096x256, .f32⟩
  | 24 => ⟨S8x4096x256, .f32⟩
  | 25 => ⟨S_, .f32⟩
  | 26 => ⟨S8x4096x256, .f32⟩
  | 27 => ⟨S8x4096x256, .f32⟩
  | 28 => ⟨S8x4096x256, .f32⟩
  | 29 => ⟨S_, .f32⟩
  | 30 => ⟨S8x4096x256, .f32⟩
  | 31 => ⟨S8x4096x256, .f32⟩
  | 32 => ⟨S8x4096x256, .f32⟩
  | 33 => ⟨S_, .f32⟩
  | 34 => ⟨S8x4096x256, .f32⟩
  | 35 => ⟨S8x4096x256, .f32⟩
  | 36 => ⟨S_, .f32⟩
  | 37 => ⟨S8x4096x256, .f32⟩
  | 38 => ⟨S8x4096x256, .f32⟩
  | 39 => ⟨S8x4096x256, .f32⟩
  | 40 => ⟨S8x4096x4x64, .f32⟩
  | 41 => ⟨S4x64, .f32⟩
  | 42 => ⟨S8x4096x4x64, .f32⟩
  | 43 => ⟨S_, .f32⟩
  | 44 => ⟨S8x4096x4, .f32⟩
  | 45 => ⟨S8x4096x4x1, .f32⟩
  | 46 => ⟨S_, .f32⟩
  | 47 => ⟨S8x4096x4x1, .f32⟩
  | 48 => ⟨S8x4096x4x1, .f32⟩
  | 49 => ⟨S_, .f32⟩
  | 50 => ⟨S8x4096x4x1, .f32⟩
  | 51 => ⟨S8x4096x4x1, .f32⟩
  | 52 => ⟨S8x4096x4x1, .f32⟩
  | 53 => ⟨S8x4096x4x64, .f32⟩
  | 54 => ⟨S8x4096x4x64, .f32⟩
  | 55 => ⟨S1x1x4x64, .f32⟩
  | 56 => ⟨S8x4096x4x64, .f32⟩
  | 57 => ⟨S8x4096x4x64, .f32⟩
  | 58 => ⟨S8x32x128x4x64, .f32⟩
  | 59 => ⟨S4x8x32x64x128, .f32⟩
  | 60 => ⟨S8x32x128x4x64, .f32⟩
  | 61 => ⟨S128x4, .f32⟩
  | 62 => ⟨S128x4x1, .f32⟩
  | 63 => ⟨S1x1x128x4x1, .f32⟩
  | 64 => ⟨S8x32x128x4x64, .f32⟩
  | 65 => ⟨S8x32x128x4x64, .f32⟩
  | 66 => ⟨S8x4096x256, .f32⟩
  | 67 => ⟨S8x4096x256, .f32⟩
  | 68 => ⟨S8x4352x256, .f32⟩
  | 69 => ⟨S8x17x256x512, .f32⟩
  | 70 => ⟨S8x17x512x256, .f32⟩
  | 71 => ⟨S8x17x512x256, .bf16⟩
  | 72 => ⟨S8x4352x512, .bf16⟩
  | 73 => ⟨S8x17x256x512, .f32⟩
  | 74 => ⟨S8x17x512x256, .f32⟩
  | 75 => ⟨S8x17x512x256, .bf16⟩
  | 76 => ⟨S8x256x256, .f32⟩
  | 77 => ⟨S8x256x256, .f32⟩
  | 78 => ⟨S8x256x256, .f32⟩
  | 79 => ⟨S8x256x256, .f32⟩
  | 80 => ⟨S_, .f32⟩
  | 81 => ⟨S8x256x256, .f32⟩
  | 82 => ⟨S8x256x256, .f32⟩
  | 83 => ⟨S8x256x256, .f32⟩
  | 84 => ⟨S_, .f32⟩
  | 85 => ⟨S8x256x256, .f32⟩
  | 86 => ⟨S8x256x256, .f32⟩
  | 87 => ⟨S8x256x256, .f32⟩
  | 88 => ⟨S_, .f32⟩
  | 89 => ⟨S8x256x256, .f32⟩
  | 90 => ⟨S8x256x256, .f32⟩
  | 91 => ⟨S_, .f32⟩
  | 92 => ⟨S8x256x256, .f32⟩
  | 93 => ⟨S8x256x256, .f32⟩
  | 94 => ⟨S8x256x256, .f32⟩
  | 95 => ⟨S8x256x512, .f32⟩
  | 96 => ⟨S8x4096x256, .f32⟩
  | 97 => ⟨S8x4096x256, .f32⟩
  | 98 => ⟨S8x4096x256, .f32⟩
  | 99 => ⟨S8x4096x256, .f32⟩
  | 100 => ⟨S_, .f32⟩
  | 101 => ⟨S8x4096x256, .f32⟩
  | 102 => ⟨S8x4096x256, .f32⟩
  | 103 => ⟨S8x4096x256, .f32⟩
  | 104 => ⟨S_, .f32⟩
  | 105 => ⟨S8x4096x256, .f32⟩
  | 106 => ⟨S8x4096x256, .f32⟩
  | 107 => ⟨S8x4096x256, .f32⟩
  | 108 => ⟨S_, .f32⟩
  | 109 => ⟨S8x4096x256, .f32⟩
  | 110 => ⟨S8x4096x256, .f32⟩
  | 111 => ⟨S_, .f32⟩
  | 112 => ⟨S8x4096x256, .f32⟩
  | 113 => ⟨S8x4096x256, .f32⟩
  | 114 => ⟨S8x4096x256, .f32⟩
  | 115 => ⟨S8x4096x512, .f32⟩
  | 116 => ⟨S8x4352x512, .f32⟩
  | 117 => ⟨S8x4352x256, .bf16⟩
  | _ => ⟨S8x4352x1024, .f32⟩

abbrev hbmTy (i : Nat) : BufTy := match i / 128 with
  | 0 => hbmTy0_0 i
  | 1 => hbmTy0_1 i
  | 2 => hbmTy0_2 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_1 : Ref sig .tc := ⟨.hbm, 65, rfl⟩
abbrev main_v56 : Ref sig .tc := ⟨.hbm, 66, rfl⟩
abbrev main_v57 : Ref sig .tc := ⟨.hbm, 67, rfl⟩
abbrev main_cst_2 : Ref sig .tc := ⟨.hbm, 68, rfl⟩
abbrev main_v58 : Ref sig .tc := ⟨.hbm, 69, rfl⟩
abbrev main_v59 : Ref sig .tc := ⟨.hbm, 70, rfl⟩
abbrev main_cst_3 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_4 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_5 : Ref sig .tc := ⟨.hbm, 88, rfl⟩
abbrev main_v75 : Ref sig .tc := ⟨.hbm, 89, rfl⟩
abbrev main_v76 : Ref sig .tc := ⟨.hbm, 90, rfl⟩
abbrev main_cst_6 : Ref sig .tc := ⟨.hbm, 91, rfl⟩
abbrev main_v77 : Ref sig .tc := ⟨.hbm, 92, rfl⟩
abbrev main_v78 : Ref sig .tc := ⟨.hbm, 93, rfl⟩
abbrev main_cst_7 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_8 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_cst_9 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_cst_10 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_cst_11 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_cst_12 : Ref sig .tc := ⟨.hbm, 207, rfl⟩
abbrev main_v187 : Ref sig .tc := ⟨.hbm, 208, rfl⟩
abbrev main_v188 : Ref sig .tc := ⟨.hbm, 209, rfl⟩
abbrev main_cst_13 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_cst_14 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_cst_15 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_cst_16 : Ref sig .tc := ⟨.hbm, 225, rfl⟩
abbrev main_v201 : Ref sig .tc := ⟨.hbm, 226, rfl⟩
abbrev main_v202 : Ref sig .tc := ⟨.hbm, 227, rfl⟩
abbrev main_cst_17 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_cst_18 : Ref sig .tc := ⟨.hbm, 235, rfl⟩
abbrev main_v209 : Ref sig .tc := ⟨.hbm, 236, rfl⟩
abbrev main_v210 : Ref sig .tc := ⟨.hbm, 237, rfl⟩
abbrev main_cst_19 : Ref sig .tc := ⟨.hbm, 238, rfl⟩
abbrev main_v211 : Ref sig .tc := ⟨.hbm, 239, rfl⟩
abbrev main_v212 : Ref sig .tc := ⟨.hbm, 240, rfl⟩
abbrev main_cst_20 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_cst_21 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_cst_22 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_cst_23 : Ref sig .tc := ⟨.hbm, 271, rfl⟩
abbrev main_v240 : Ref sig .tc := ⟨.hbm, 272, rfl⟩
abbrev main_v241 : Ref sig .tc := ⟨.hbm, 273, rfl⟩
abbrev main_cst_24 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_cst_25 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_cst_26 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_cst_27 : Ref sig .tc := ⟨.hbm, 289, rfl⟩
abbrev main_v254 : Ref sig .tc := ⟨.hbm, 290, rfl⟩
abbrev main_v255 : Ref sig .tc := ⟨.hbm, 291, rfl⟩
abbrev main_cst_28 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_v261 : Ref sig .tc := ⟨.hbm, 298, rfl⟩
abbrev main_cst_29 : Ref sig .tc := ⟨.hbm, 299, rfl⟩
abbrev main_v262 : Ref sig .tc := ⟨.hbm, 300, rfl⟩
abbrev main_v263 : Ref sig .tc := ⟨.hbm, 301, rfl⟩
abbrev main_cst_30 : Ref sig .tc := ⟨.hbm, 302, rfl⟩
abbrev main_v264 : Ref sig .tc := ⟨.hbm, 303, rfl⟩
abbrev main_v265 : Ref sig .tc := ⟨.hbm, 304, rfl⟩
abbrev main_cst_31 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_v292 : Ref sig .tc := ⟨.hbm, 332, rfl⟩
abbrev main_v293 : Ref sig .tc := ⟨.hbm, 333, rfl⟩
abbrev main_v294 : Ref sig .tc := ⟨.hbm, 334, rfl⟩
abbrev main_v295 : Ref sig .tc := ⟨.hbm, 335, rfl⟩
abbrev main_cst_32 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_cst_33 : Ref sig .tc := ⟨.hbm, 340, rfl⟩
abbrev main_v299 : Ref sig .tc := ⟨.hbm, 341, rfl⟩
abbrev main_v300 : Ref sig .tc := ⟨.hbm, 342, rfl⟩
abbrev main_v301 : Ref sig .tc := ⟨.hbm, 343, rfl⟩
abbrev main_cst_34 : Ref sig .tc := ⟨.hbm, 344, rfl⟩
abbrev main_v302 : Ref sig .tc := ⟨.hbm, 345, rfl⟩
abbrev main_v303 : Ref sig .tc := ⟨.hbm, 346, rfl⟩
abbrev main_cst_35 : Ref sig .tc := ⟨.hbm, 347, rfl⟩
abbrev main_v304 : Ref sig .tc := ⟨.hbm, 348, rfl⟩
abbrev main_v305 : Ref sig .tc := ⟨.hbm, 349, rfl⟩
abbrev main_v306 : Ref sig .tc := ⟨.hbm, 350, rfl⟩
abbrev main_v307 : Ref sig .tc := ⟨.hbm, 351, rfl⟩
abbrev main_v308 : Ref sig .tc := ⟨.hbm, 352, rfl⟩
abbrev main_v309 : Ref sig .tc := ⟨.hbm, 353, rfl⟩
abbrev main_v310 : Ref sig .tc := ⟨.hbm, 354, rfl⟩
abbrev main_v311 : Ref sig .tc := ⟨.hbm, 355, rfl⟩
abbrev main_cst_36 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_cst_37 : Ref sig .tc := ⟨.hbm, 360, rfl⟩
abbrev main_v315 : Ref sig .tc := ⟨.hbm, 361, rfl⟩
abbrev main_v316 : Ref sig .tc := ⟨.hbm, 362, rfl⟩
abbrev main_v317 : Ref sig .tc := ⟨.hbm, 363, rfl⟩
abbrev main_cst_38 : Ref sig .tc := ⟨.hbm, 364, rfl⟩
abbrev main_v318 : Ref sig .tc := ⟨.hbm, 365, rfl⟩
abbrev main_v319 : Ref sig .tc := ⟨.hbm, 366, rfl⟩
abbrev main_cst_39 : Ref sig .tc := ⟨.hbm, 367, rfl⟩
abbrev main_v320 : Ref sig .tc := ⟨.hbm, 368, rfl⟩
abbrev main_v321 : Ref sig .tc := ⟨.hbm, 369, rfl⟩
abbrev main_v322 : Ref sig .tc := ⟨.hbm, 370, rfl⟩
abbrev main_v323 : Ref sig .tc := ⟨.hbm, 371, rfl⟩
abbrev main_v324 : Ref sig .tc := ⟨.hbm, 372, rfl⟩
abbrev main_v325 : Ref sig .tc := ⟨.hbm, 373, rfl⟩

abbrev nD : Nat := 1
abbrev τ : Topo := Topo.v7x

variable {F : FTy → Type} [FloatOps F]
-- ==== Kernel4.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x6144, .f32⟩
  | .hbm, ⟨30, _⟩ => ⟨S1024x6144, .f32⟩
  | .hbm, ⟨31, _⟩ => ⟨S16x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S16x6144, .f32⟩
  | .hbm, ⟨36, _⟩ => ⟨S16x6144, .f32⟩
  | .hbm, ⟨37, _⟩ => ⟨S1x16x6144, .f32⟩
  | .hbm, ⟨38, _⟩ => ⟨S1x16x6144, .f32⟩
  | .hbm, ⟨39, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel5.lean ====
abbrev S8x4352x512 : Shape := ⟨3, ![8, 4352, 512]⟩
abbrev S8x4352x256 : Shape := ⟨3, ![8, 4352, 256]⟩
abbrev S8x4352x1024 : Shape := ⟨3, ![8, 4352, 1024]⟩
abbrev S16x6x1x1024 : Shape := ⟨4, ![16, 6, 1, 1024]⟩
abbrev S1x1024 : Shape := ⟨2, ![1, 1024]⟩
abbrev S1024x1024 : Shape := ⟨2, ![1024, 1024]⟩
abbrev S1024x2816 : Shape := ⟨2, ![1024, 2816]⟩
abbrev S2816x1024 : Shape := ⟨2, ![2816, 1024]⟩
abbrev S1x256x512 : Shape := ⟨3, ![1, 256, 512]⟩
abbrev S1x256x256 : Shape := ⟨3, ![1, 256, 256]⟩
abbrev S1x256x1024 : Shape := ⟨3, ![1, 256, 1024]⟩
abbrev S1x6x1x1024 : Shape := ⟨4, ![1, 6, 1, 1024]⟩
abbrev S256x512 : Shape := ⟨2, ![256, 512]⟩
abbrev S256x256 : Shape := ⟨2, ![256, 256]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S256x2816 : Shape := ⟨2, ![256, 2816]⟩

abbrev nBuf : Space → Nat
  | .hbm => 12
  | .vmem => 18
  | .smem => 0
  | _ => 0

abbrev bufTy : (tb : Table) → Fin (tcTables nBuf tb) → BufTy
  | .hbm, ⟨0, _⟩ => ⟨S8x4352x512, .bf16⟩
  | .hbm, ⟨1, _⟩ => ⟨S8x4352x256, .bf16⟩
  | .hbm, ⟨2, _⟩ => ⟨S8x4352x256, .bf16⟩
  | .hbm, ⟨3, _⟩ => ⟨S8x4352x1024, .f32⟩
  | .hbm, ⟨4, _⟩ => ⟨S16x6x1x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S8x4352x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x1024, .f32⟩
  | .local _ .vmem, ⟨7, _⟩ => ⟨S1x256x1024, .f32⟩
  | .local _ .vmem, ⟨8, _⟩ => ⟨S1x6x1x1024, .f32⟩
  | .local _ .vmem, ⟨9, _⟩ => ⟨S1x6x1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x256x1024, .f32⟩
  | .local _ .vmem, ⟨17, _⟩ => ⟨S1x256x1024, .f32⟩
  | _, _ => ⟨S8x4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let c8_i32 : BitVec 32 := 8#32
  let v2 : BitVec 32 := Scalar.select v1 c8_i32 arg0
  let c0_i32_1 : BitVec 32 := 0#32
  let c0_i32_2 : BitVec 32 := 0#32
  let c0_i32_3 : BitVec 32 := 0#32
  let c0_i32_4 : BitVec 32 := 0#32
  ![v2.toNat, c0_i32_1.toNat, c0_i32_2.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S8x4352x512 : Shape := ⟨3, ![8, 4352, 512]⟩
abbrev S8x4352x256 : Shape := ⟨3, ![8, 4352, 256]⟩
abbrev S8x4352x1024 : Shape := ⟨3, ![8, 4352, 1024]⟩
abbrev S16x6x1x1024 : Shape := ⟨4, ![16, 6, 1, 1024]⟩
abbrev S1x1024 : Shape := ⟨2, ![1, 1024]⟩
abbrev S1024x1024 : Shape := ⟨2, ![1024, 1024]⟩
abbrev S1024x2816 : Shape := ⟨2, ![1024, 2816]⟩
abbrev S2816x1024 : Shape := ⟨2, ![2816, 1024]⟩
abbrev S8x256x1024 : Shape := ⟨3, ![8, 256, 1024]⟩
abbrev S8x4096x1024 : Shape := ⟨3, ![8, 4096, 1024]⟩
abbrev S8x1x1x1024 : Shape := ⟨4, ![8, 1, 1, 1024]⟩
abbrev S8x1x1024 : Shape := ⟨3, ![8, 1, 1024]⟩
abbrev S1x1x1x1024 : Shape := ⟨4, ![1, 1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S8x256 : Shape := ⟨2, ![8, 256]⟩
abbrev S8x256x1 : Shape := ⟨3, ![8, 256, 1]⟩
abbrev S8x256x2816 : Shape := ⟨3, ![8, 256, 2816]⟩

abbrev nBuf : Space → Nat
  | .hbm => 140
  | .vmem => 0
  | .smem => 0
  | _ => 0

abbrev hbmTy0_0 (i : Nat) : BufTy := match i % 128 with
  | 0 => ⟨S8x4352x512, .bf16⟩
  | 1 => ⟨S8x4352x256, .bf16⟩
  | 2 => ⟨S8x4352x256, .bf16⟩
  | 3 => ⟨S8x4352x1024, .f32⟩
  | 4 => ⟨S16x6x1x1024, .f32⟩
  | 5 => ⟨S1x1024, .f32⟩
  | 6 => ⟨S1x1024, .f32⟩
  | 7 => ⟨S1024x1024, .bf16⟩
  | 8 => ⟨S1024x2816, .bf16⟩
  | 9 => ⟨S1024x2816, .bf16⟩
  | 10 => ⟨S2816x1024, .bf16⟩
  | 11 => ⟨S1024x1024, .f32⟩
  | 12 => ⟨S1024x2816, .f32⟩
  | 13 => ⟨S1024x2816, .f32⟩
  | 14 => ⟨S2816x1024, .f32⟩
  | 15 => ⟨S8x4352x512, .f32⟩
  | 16 => ⟨S8x4352x256, .f32⟩
  | 17 => ⟨S8x4352x256, .f32⟩
  | 18 => ⟨S8x4352x1024, .f32⟩
  | 19 => ⟨S8x256x1024, .f32⟩
  | 20 => ⟨S8x4096x1024, .f32⟩
  | 21 => ⟨S8x1x1x1024, .f32⟩
  | 22 => ⟨S8x1x1024, .f32⟩
  | 23 => ⟨S8x1x1x1024, .f32⟩
  | 24 => ⟨S8x1x1024, .f32⟩
  | 25 => ⟨S8x1x1x1024, .f32⟩
  | 26 => ⟨S8x1x1024, .f32⟩
  | 27 => ⟨S8x1x1x1024, .f32⟩
  | 28 => ⟨S8x1x1024, .f32⟩
  | 29 => ⟨S8x1x1x1024, .f32⟩
  | 30 => ⟨S8x1x1024, .f32⟩
  | 31 => ⟨S8x1x1x1024, .f32⟩
  | 32 => ⟨S8x1x1024, .f32⟩
  | 33 => ⟨S1x1x1x1024, .f32⟩
  | 34 => ⟨S1x1024, .f32⟩
  | 35 => ⟨S1x1x1x1024, .f32⟩
  | 36 => ⟨S1x1024, .f32⟩
  | 37 => ⟨S1x1x1x1024, .f32⟩
  | 38 => ⟨S1x1024, .f32⟩
  | 39 => ⟨S1x1x1x1024, .f32⟩
  | 40 => ⟨S1x1024, .f32⟩
  | 41 => ⟨S1x1x1x1024, .f32⟩
  | 42 => ⟨S1x1024, .f32⟩
  | 43 => ⟨S1x1x1x1024, .f32⟩
  | 44 => ⟨S1x1024, .f32⟩
  | 45 => ⟨S8x4096x1024, .f32⟩
  | 46 => ⟨S8x4096x1024, .f32⟩
  | 47 => ⟨S8x4096x1024, .f32⟩
  | 48 => ⟨S8x4096x1024, .f32⟩
  | 49 => ⟨S8x4096x1024, .f32⟩
  | 50 => ⟨S1024, .f32⟩
  | 51 => ⟨S8x4096x1024, .f32⟩
  | 52 => ⟨S_, .f32⟩
  | 53 => ⟨S8x4096, .f32⟩
  | 54 => ⟨S8x4096x1, .f32⟩
  | 55 => ⟨S_, .f32⟩
  | 56 => ⟨S8x4096x1, .f32⟩
  | 57 => ⟨S8x4096x1, .f32⟩
  | 58 => ⟨S_, .f32⟩
  | 59 => ⟨S8x4096x1, .f32⟩
  | 60 => ⟨S8x4096x1, .f32⟩
  | 61 => ⟨S8x4096x1, .f32⟩
  | 62 => ⟨S8x4096x1024, .f32⟩
  | 63 => ⟨S8x4096x1024, .f32⟩
  | 64 => ⟨S1x1x1024, .f32⟩
  | 65 => ⟨S8x4096x1024, .f32⟩
  | 66 => ⟨S8x4096x1024, .f32⟩
  | 67 => ⟨S_, .f32⟩
  | 68 => ⟨S8x1x1024, .f32⟩
  | 69 => ⟨S8x1x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S8x4096x2816, .f32⟩
  | 75 => ⟨S8x4096x2816, .f32⟩
  | 76 => ⟨S8x4096x2816, .f32⟩
  | 77 => ⟨S_, .f32⟩
  | 78 => ⟨S8x4096x2816, .f32⟩
  | 79 => ⟨S8x4096x2816, .f32⟩
  | 80 => ⟨S_, .f32⟩
  | 81 => ⟨S8x4096x2816, .f32⟩
  | 82 => ⟨S8x4096x2816, .f32⟩
  | 83 => ⟨S8x4096x2816, .f32⟩
  | 84 => ⟨S8x4096x2816, .f32⟩
  | 85 => ⟨S8x4096x2816, .f32⟩
  | 86 => ⟨S8x4096x1024, .f32⟩
  | 87 => ⟨S8x4096x1024, .f32⟩
  | 88 => ⟨S8x4096x1024, .f32⟩
  | 89 => ⟨S8x4096x1024, .f32⟩
  | 90 => ⟨S8x256x1024, .f32⟩
  | 91 => ⟨S8x256x1024, .f32⟩
  | 92 => ⟨S1x1x1024, .f32⟩
  | 93 => ⟨S8x256x1024, .f32⟩
  | 94 => ⟨S8x256x1024, .f32⟩
  | 95 => ⟨S8x256x1024, .f32⟩
  | 96 => ⟨S1024, .f32⟩
  | 97 => ⟨S8x256x1024, .f32⟩
  | 98 => ⟨S_, .f32⟩
  | 99 => ⟨S8x256, .f32⟩
  | 100 => ⟨S8x256x1, .f32⟩
  | 101 => ⟨S_, .f32⟩
  | 102 => ⟨S8x256x1, .f32⟩
  | 103 => ⟨S8x256x1, .f32⟩
  | 104 => ⟨S_, .f32⟩
  | 105 => ⟨S8x256x1, .f32⟩
  | 106 => ⟨S8x256x1, .f32⟩
  | 107 => ⟨S8x256x1, .f32⟩
  | 108 => ⟨S8x256x1024, .f32⟩
  | 109 => ⟨S8x256x1024, .f32⟩
  | 110 => ⟨S1x1x1024, .f32⟩
  | 111 => ⟨S8x256x1024, .f32⟩
  | 112 => ⟨S8x256x1024, .f32⟩
  | 113 => ⟨S_, .f32⟩
  | 114 => ⟨S1x1024, .f32⟩
  | 115 => ⟨S1x1024, .f32⟩
  | 116 => ⟨S1x1x1024, .f32⟩
  | 117 => ⟨S8x256x1024, .f32⟩
  | 118 => ⟨S8x256x1024, .f32⟩
  | 119 => ⟨S1x1x1024, .f32⟩
  | 120 => ⟨S8x256x1024, .f32⟩
  | 121 => ⟨S8x256x1024, .f32⟩
  | 122 => ⟨S8x256x2816, .f32⟩
  | 123 => ⟨S8x256x2816, .f32⟩
  | 124 => ⟨S8x256x2816, .f32⟩
  | 125 => ⟨S_, .f32⟩
  | 126 => ⟨S8x256x2816, .f32⟩
  | 127 => ⟨S8x256x2816, .f32⟩
  | _ => ⟨S8x4352x512, .bf16⟩

abbrev hbmTy0_1 (i : Nat) : BufTy := match i % 128 with
  | 0 => ⟨S_, .f32⟩
  | 1 => ⟨S8x256x2816, .f32⟩
  | 2 => ⟨S8x256x2816, .f32⟩
  | 3 => ⟨S8x256x2816, .f32⟩
  | 4 => ⟨S8x256x2816, .f32⟩
  | 5 => ⟨S8x256x2816, .f32⟩
  | 6 => ⟨S8x256x1024, .f32⟩
  | 7 => ⟨S1x1x1024, .f32⟩
  | 8 => ⟨S8x256x1024, .f32⟩
  | 9 => ⟨S8x256x1024, .f32⟩
  | 10 => ⟨S8x256x1024, .f32⟩
  | 11 => ⟨S8x4352x1024, .f32⟩
  | _ => ⟨S8x4352x512, .bf16⟩

abbrev hbmTy (i : Nat) : BufTy := match i / 128 with
  | 0 => hbmTy0_0 i
  | 1 => hbmTy0_1 i
  | _ => ⟨S8x4352x512, .bf16⟩

abbrev bufTy : (tb : Table) → Fin (tcTables nBuf tb) → BufTy
  | .hbm, ⟨i, _⟩ => hbmTy i
  | _, _ => ⟨S8x4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_v41 : Ref sig .tc := ⟨.hbm, 53, rfl⟩
abbrev main_v42 : Ref sig .tc := ⟨.hbm, 54, rfl⟩
abbrev main_cst_0 : Ref sig .tc := ⟨.hbm, 55, rfl⟩
abbrev main_v43 : Ref sig .tc := ⟨.hbm, 56, rfl⟩
abbrev main_v44 : Ref sig .tc := ⟨.hbm, 57, rfl⟩
abbrev main_cst_1 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_2 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_3 : Ref sig .tc := ⟨.hbm, 98, rfl⟩
abbrev main_v75 : Ref sig .tc := ⟨.hbm, 99, rfl⟩
abbrev main_v76 : Ref sig .tc := ⟨.hbm, 100, rfl⟩
abbrev main_cst_4 : Ref sig .tc := ⟨.hbm, 101, rfl⟩
abbrev main_v77 : Ref sig .tc := ⟨.hbm, 102, rfl⟩
abbrev main_v78 : Ref sig .tc := ⟨.hbm, 103, rfl⟩
abbrev main_cst_5 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_6 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_call1_v0 : Ref sig .tc := ⟨.hbm, 123, rfl⟩
abbrev main_call1_v1 : Ref sig .tc := ⟨.hbm, 124, rfl⟩
abbrev main_call1_cst : Ref sig .tc := ⟨.hbm, 125, rfl⟩
abbrev main_call1_v2 : Ref sig .tc := ⟨.hbm, 126, rfl⟩
abbrev main_call1_v3 : Ref sig .tc := ⟨.hbm, 127, rfl⟩
abbrev main_call1_cst_0 : Ref sig .tc := ⟨.hbm, 128, rfl⟩
abbrev main_call1_v4 : Ref sig .tc := ⟨.hbm, 129, rfl⟩
abbrev main_call1_v5 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩

abbrev nD : Nat := 1
abbrev τ : Topo := Topo.v7x

variable {F : FTy → Type} [FloatOps F]
-- ==== Proof.FfnSpec.lean ====
/-
  What the output projection and the feed-forward network compute for ONE token, over the extended reals: the three
  branches side by side times the output weights, added to the stream; an rms norm with shift and scale; a gated
  two-layer network with `silu`, added to the stream; the final rms norm.
-/
module

public import Idealize.ShloMosaic.Lib.Pointwise

@[expose] public section

noncomputable section

namespace Layer.Ffn

open Idealize.ShloMosaic

/-- One token's own data: the three branches, the residual stream, and its batch's modulation: the gate of the
    output projection, the shift and the scale before the network, and the network's gate. -/
structure Token where
  ya : Fin 512 → EReal
  yr : Fin 256 → EReal
  ys : Fin 256 → EReal
  x : Fin 1024 → EReal
  og : Fin 1024 → EReal
  shift : Fin 1024 → EReal
  scale : Fin 1024 → EReal
  fg : Fin 1024 → EReal

/-- What all tokens share: the gains of the two norms and the four weight matrices. -/
structure Weights where
  g2 : Fin 1024 → EReal
  gf : Fin 1024 → EReal
  wo : Fin 1024 → Fin 1024 → EReal
  wg : Fin 1024 → Fin 2816 → EReal
  wu : Fin 1024 → Fin 2816 → EReal
  wd : Fin 2816 → Fin 1024 → EReal

/-- The three branches side by side. -/
def cat (t : Token) (k : Fin 1024) : EReal :=
  if h : k.val < 512 then t.ya ⟨k.val, h⟩
  else if h' : k.val - 512 < 256 then t.yr ⟨k.val - 512, h'⟩
  else t.ys ⟨k.val - 512 - 256, by have := k.isLt; omega⟩

/-- The reciprocal of the root mean square of a row. -/
def rms (v : Fin 1024 → EReal) : EReal :=
  Ideal.rsqrt (Ideal.div (∑ k, v k * v k) (Ideal.ofBits .f32 0x44800000#32) + Ideal.ofBits .f32 0x358637BD#32)

/-- The stream after the output projection. -/
def mid (t : Token) (w : Weights) (d : Fin 1024) : EReal :=
  t.x d + t.og d * ∑ k, cat t k * w.wo k d

/-- The stream normed, with its gain. -/
def normed (t : Token) (w : Weights) (d : Fin 1024) : EReal :=
  mid t w d * rms (mid t w) * w.g2 d

/-- The network's input: the normed stream, scaled and shifted. -/
def hidden (t : Token) (w : Weights) (d : Fin 1024) : EReal :=
  normed t w d * (1 + t.scale d) + t.shift d

/-- The gate before its nonlinearity. -/
def gate (t : Token) (w : Weights) (e : Fin 2816) : EReal := ∑ k, hidden t w k * w.wg k e

/-- The network's inner row: `silu` of the gate times the up projection. -/
def inner (t : Token) (w : Weights) (e : Fin 2816) : EReal :=
  gate t w e * Ideal.logistic (gate t w e) * ∑ k, hidden t w k * w.wu k e

/-- The stream after the network. -/
def last (t : Token) (w : Weights) (d : Fin 1024) : EReal :=
  mid t w d + t.fg d * ∑ e, inner t w e * w.wd e d

/-- The layer's result for the token: the stream under the final norm. -/
def out (t : Token) (w : Weights) (d : Fin 1024) : EReal :=
  last t w d * rms (last t w) * w.gf d

end Layer.Ffn

end
-- ==== Proof.FfnKernel.lean ====
/-
  What one block of the kernel computes: row `r` of the stored block is the token function of row `r` of the loads.
-/
module

public import proofs.«01_k».proof.Proof.FfnSpec
public import proofs.«01_k».proof.Proof.Gen.Kernel2Ideal.Value

@[expose] public section

set_option maxRecDepth 16384

noncomputable section

namespace Layer.Ffn.Block

open Idealize.ShloMosaic Cert.Kernel2Ideal Cert.Kernel2Ideal.Gen

variable (ya : Vec Ideal S1x256x512 .bf16) (yr ys : Vec Ideal S1x256x256 .bf16) (x : Vec Ideal S1x256x1024 .f32)
  (m2 m3 m4 m5 : Vec Ideal S1x1x1x1024 .f32) (g2 gf : Vec Ideal S1x1024 .f32) (wo : Vec Ideal S1024x1024 .bf16)
  (wg wu : Vec Ideal S1024x2816 .bf16) (wd : Vec Ideal S2816x1024 .bf16)

/-- Row `r` of the loads as a token, with the batch's modulation rows 2 to 5. -/
def token (r : Fin 256) : Token where
  ya k := ya (ix3 0 r k)
  yr k := yr (ix3 0 r k)
  ys k := ys (ix3 0 r k)
  x k := x (ix3 0 r k)
  og k := m2 (ix4 0 0 0 k)
  shift k := m3 (ix4 0 0 0 k)
  scale k := m4 (ix4 0 0 0 k)
  fg k := m5 (ix4 0 0 0 k)

/-- The weights as loaded. -/
def weights : Weights where
  g2 k := g2 (ix2 0 k)
  gf k := gf (ix2 0 k)
  wo k d := wo (ix2 k d)
  wg k d := wg (ix2 k d)
  wu k d := wu (ix2 k d)
  wd k d := wd (ix2 k d)

/-- The kernel's stream after the output projection. -/
theorem pay2_apply (r : Fin 256) (d : Fin 1024) :
    k0_pay2 (F := Ideal) ya yr ys x m2 wo (ix2 r d)
      = mid (token ya yr ys x m2 m3 m4 m5 r) (weights g2 gf wo wg wu wd) d := by
  pointwise [k0_pay2, mid, token, weights, cat]

/-- The same, normed and scaled by the gain. -/
theorem pay3_apply (r : Fin 256) (d : Fin 1024) :
    k0_pay3 (F := Ideal) ya yr ys x m2 wo g2 (ix2 r d)
      = normed (token ya yr ys x m2 m3 m4 m5 r) (weights g2 gf wo wg wu wd) d := by
  pointwise [k0_pay3]
  simp only [pay2_apply ya yr ys x m2 m3 m4 m5 g2 gf wo wg wu wd]
  rfl

/-- The stream after the network, times its inverse root mean square. -/
theorem pay4_apply (r : Fin 256) (d : Fin 1024) :
    k0_pay4 (F := Ideal) (k0_pay2 ya yr ys x m2 wo) (k0_pay3 ya yr ys x m2 wo g2) m4 m3 wg wu m5 wd (ix2 r d)
      = last (token ya yr ys x m2 m3 m4 m5 r) (weights g2 gf wo wg wu wd) d
        * rms (last (token ya yr ys x m2 m3 m4 m5 r) (weights g2 gf wo wg wu wd)) := by
  pointwise [k0_pay4]
  simp only [pay2_apply ya yr ys x m2 m3 m4 m5 g2 gf wo wg wu wd, pay3_apply ya yr ys x m2 m3 m4 m5 g2 gf wo wg wu wd]
  rfl

/-- The stored block, row by row. -/
theorem store_apply (r : Fin 256) (d : Fin 1024) :
    k0_pay1 (F := Ideal) (k0_pay4 (k0_pay2 ya yr ys x m2 wo) (k0_pay3 ya yr ys x m2 wo g2) m4 m3 wg wu m5 wd)
        (k0_pay5 gf) (ix3 0 r d)
      = out (token ya yr ys x m2 m3 m4 m5 r) (weights g2 gf wo wg wu wd) d := by
  pointwise [k0_pay1, k0_pay5]
  rw [pay4_apply ya yr ys x m2 m3 m4 m5 g2 gf wo wg wu wd]
  rfl

end Layer.Ffn.Block

end
-- ==== Proof.FfnRef.lean ====
/-
  What the reference computes: the result at batch `b`, latent `s` is the token function of row `256 + s` of the arrays.
-/
module

public import proofs.«01_k».proof.Proof.FfnSpec
public import proofs.«01_k».proof.Proof.Gen.Reference2Ideal.Read

@[expose] public section

set_option maxRecDepth 16384

noncomputable section

namespace Layer.Ffn.Whole

open Idealize.ShloMosaic Cert.Reference2Ideal Cert.Reference2Ideal.Gen Cert.Reference2Ideal.Read

variable (ya : FVec Ideal S8x4352x512 .bf16) (yr ys : FVec Ideal S8x4352x256 .bf16) (x : FVec Ideal S8x4352x1024 .f32)
  (m : FVec Ideal S16x6x1x1024 .f32) (g2 gf : FVec Ideal S1x1024 .f32) (wo : FVec Ideal S1024x1024 .bf16)
  (wg wu : FVec Ideal S1024x2816 .bf16) (wd : FVec Ideal S2816x1024 .bf16)

/-- Latent `s` of batch `b`: its row of the arrays lies behind the 256 rows of the context. -/
def token (b : Fin 8) (s : Fin 4096) : Token where
  ya k := ya (ix3 b ⟨256 + s.val, by omega⟩ k)
  yr k := yr (ix3 b ⟨256 + s.val, by omega⟩ k)
  ys k := ys (ix3 b ⟨256 + s.val, by omega⟩ k)
  x k := x (ix3 b ⟨256 + s.val, by omega⟩ k)
  og k := m (ix4 ⟨b.val, by omega⟩ 2 0 k)
  shift k := m (ix4 ⟨b.val, by omega⟩ 3 0 k)
  scale k := m (ix4 ⟨b.val, by omega⟩ 4 0 k)
  fg k := m (ix4 ⟨b.val, by omega⟩ 5 0 k)

/-- The weights as arrays. -/
def weights : Weights where
  g2 k := g2 (ix2 0 k)
  gf k := gf (ix2 0 k)
  wo k d := wo (ix2 k d)
  wg k d := wg (ix2 k d)
  wu k d := wu (ix2 k d)
  wd k d := wd (ix2 k d)

/-- The reference's stream after the output projection. -/
theorem v27_apply (b : Fin 8) (s : Fin 4096) (d : Fin 1024) :
    val_main_v27 (F := Ideal) ya yr ys x m wo (ix3 b s d)
      = mid (token ya yr ys x m b s) (weights g2 gf wo wg wu wd) d := by
  pointwise [val_main_v27, val_main_v4, val_main_v26, val_main_v25, val_main_v10, val_main_v9, val_main_v24,
    val_main_v23, val_main_v18, val_main_v20, val_main_v22, val_main_v17, val_main_v19, val_main_v21, val_main_v0,
    mid, token, weights, cat]

/-- The same, normed and scaled by the gain. -/
theorem v41_apply (b : Fin 8) (s : Fin 4096) (d : Fin 1024) :
    val_main_v41 (F := Ideal) ya yr ys x m g2 wo (ix3 b s d)
      = normed (token ya yr ys x m b s) (weights g2 gf wo wg wu wd) d := by
  pointwise [val_main_v41, val_main_v38, val_main_v40, val_main_v39, val_main_v28, val_main_v37, val_main_v36,
    val_main_v35, val_main_v34, val_main_cst_1, val_main_v33, val_main_v32, val_main_cst_0, val_main_v31, val_main_v30,
    val_main_cst, val_main_v29]
  simp only [v27_apply ya yr ys x m g2 gf wo wg wu wd]
  rfl

/-- The modulated row that enters the network. -/
theorem v47_apply (b : Fin 8) (s : Fin 4096) (d : Fin 1024) :
    val_main_v47 (F := Ideal) ya yr ys x m g2 wo (ix3 b s d)
      = hidden (token ya yr ys x m b s) (weights g2 gf wo wg wu wd) d := by
  pointwise [val_main_v47, val_main_v46, val_main_v45, val_main_v44, val_main_v43, val_main_v42, val_main_cst_2,
    val_main_v14, val_main_v13, val_main_v12, val_main_v11]
  rw [v41_apply ya yr ys x m g2 gf wo wg wu wd]
  rfl

/-- The network's gate. -/
theorem v48_apply (b : Fin 8) (s : Fin 4096) (e : Fin 2816) :
    val_main_v48 (F := Ideal) ya yr ys x m g2 wo wg (ix3 b s e)
      = gate (token ya yr ys x m b s) (weights g2 gf wo wg wu wd) e := by
  pointwise [val_main_v48, val_main_v1]
  simp only [v47_apply ya yr ys x m g2 gf wo wg wu wd]
  rfl

/-- The network's inner row. -/
theorem v51_apply (b : Fin 8) (s : Fin 4096) (e : Fin 2816) :
    val_main_v51 (F := Ideal) ya yr ys x m g2 wo wg wu (ix3 b s e)
      = inner (token ya yr ys x m b s) (weights g2 gf wo wg wu wd) e := by
  pointwise [val_main_v51, val_main_v50, val_main_v49, val_main_call0_v5, val_main_call0_v4, val_main_call0_cst_0,
    val_main_call0_v3, val_main_call0_v2, val_main_call0_cst, val_main_call0_v1, val_main_call0_v0, val_main_v2]
  simp only [v47_apply ya yr ys x m g2 gf wo wg wu wd, v48_apply ya yr ys x m g2 gf wo wg wu wd]
  rfl

/-- The reference's stream after the network. -/
theorem v55_apply (b : Fin 8) (s : Fin 4096) (d : Fin 1024) :
    val_main_v55 (F := Ideal) ya yr ys x m g2 wo wg wu wd (ix3 b s d)
      = last (token ya yr ys x m b s) (weights g2 gf wo wg wu wd) d := by
  pointwise [val_main_v55, val_main_v54, val_main_v53, val_main_v16, val_main_v15, val_main_v52, val_main_v3]
  simp only [v27_apply ya yr ys x m g2 gf wo wg wu wd, v51_apply ya yr ys x m g2 gf wo wg wu wd]
  rfl

/-- The reference's result, token by token. -/
theorem v69_apply (b : Fin 8) (s : Fin 4096) (d : Fin 1024) :
    val_main_v69 (F := Ideal) ya yr ys x m g2 gf wo wg wu wd (ix3 b s d)
      = out (token ya yr ys x m b s) (weights g2 gf wo wg wu wd) d := by
  pointwise [val_main_v69, val_main_v68, val_main_v67, val_main_v56, val_main_v66, val_main_v65, val_main_v64,
    val_main_v63, val_main_v62, val_main_cst_5, val_main_v61, val_main_v60, val_main_cst_4, val_main_v59, val_main_v58,
    val_main_cst_3, val_main_v57]
  simp only [v55_apply ya yr ys x m g2 gf wo wg wu wd]
  rfl

end Layer.Ffn.Whole

end
-- ==== Proof.FfnValue.lean ====
/-
  The kernel's result array after its run: the reference's term of the same arguments.
-/
module

public import proofs.«01_k».proof.Proof.FfnKernel
public import proofs.«01_k».proof.Proof.FfnRef
public import Idealize.ShloMosaic.Lib.Pipeline.ValueKit

@[expose] public section

set_option maxRecDepth 16384

noncomputable section

namespace Layer.Ffn.Value

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- Where each window's block lies at grid point `t = 16 b + i`. -/
theorem idx : ∀ t : Fin cfg0.N,
    win0_0.index t = ![t.val / 16, 1 + t.val % 16, 0] ∧ win0_1.index t = ![t.val / 16, 1 + t.val % 16, 0]
    ∧ win0_2.index t = ![t.val / 16, 1 + t.val % 16, 0] ∧ win0_3.index t = ![t.val / 16, 1 + t.val % 16, 0]
    ∧ win0_4.index t = ![t.val / 16, 0, 0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val / 16, t.val % 16, 0] :=
  (by decide +kernel : ∀ t : Fin grid0.N,
    win0_0.index t = ![t.val / 16, 1 + t.val % 16, 0] ∧ win0_1.index t = ![t.val / 16, 1 + t.val % 16, 0]
    ∧ win0_2.index t = ![t.val / 16, 1 + t.val % 16, 0] ∧ win0_3.index t = ![t.val / 16, 1 + t.val % 16, 0]
    ∧ win0_4.index t = ![t.val / 16, 0, 0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val / 16, t.val % 16, 0])

/-- The reference's term of device `c`'s arguments. -/
abbrev result : FVec Ideal Cert.Reference2Ideal.S8x4096x1024 .f32 :=
  Cert.Reference2Ideal.Read.val_main_v69 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- Row `r` of the blocks at point `t` is the token of latent `256 i + r` of batch `b`. -/
theorem token_eq (t : Fin cfg0.N) (r : Fin 256) (b : Fin 8) (s : Fin 4096) (hb : b.val = t.val / 16)
    (hs : s.val = t.val % 16 * 256 + r.val) :
    Block.token (iblk m c 0 t) (iblk m c 1 t) (iblk m c 2 t) (iblk m c 3 t) (View.ld (iblk m c 4 t) r0_3)
        (View.ld (iblk m c 4 t) r0_7) (View.ld (iblk m c 4 t) r0_6) (View.ld (iblk m c 4 t) r0_9) r
      = Whole.token (m ((c : Thread nD τ).loc main_arg0)) (m ((c : Thread nD τ).loc main_arg1))
          (m ((c : Thread nD τ).loc main_arg2)) (m ((c : Thread nD τ).loc main_arg3))
          (m ((c : Thread nD τ).loc main_arg4)) b s := by
  unfold Block.token Whole.token
  congr 1 <;> funext k <;> pointwise <;> blk_ext [iblk, V, idx t]

/-- The weights' blocks are the whole arrays at every point. -/
theorem weights_eq (t : Fin cfg0.N) :
    Block.weights (iblk m c 5 t) (iblk m c 6 t) (iblk m c 7 t) (iblk m c 8 t) (iblk m c 9 t) (iblk m c 10 t)
      = Whole.weights (m ((c : Thread nD τ).loc main_arg5)) (m ((c : Thread nD τ).loc main_arg6))
          (m ((c : Thread nD τ).loc main_arg7)) (m ((c : Thread nD τ).loc main_arg8))
          (m ((c : Thread nD τ).loc main_arg9)) (m ((c : Thread nD τ).loc main_arg10)) := by
  unfold Block.weights Whole.weights
  congr 1 <;> funext k <;> first | blk_ext [iblk, V, idx t] | (funext d; blk_ext [iblk, V, idx t])

/-- The result array after the run. -/
theorem final : (dats m 0 c).arrAt 11 cfg0.N = result m c := by
  refine (dats m 0 c).arrAt_eq_of_covers 11 _ (by decide +kernel) fun t hf y => ?_
  blk_simp
  rw [after0_11]
  frame_out
  obtain ⟨r, d, rfl⟩ : ∃ (r : Fin 256) (d : Fin 1024), y = ix3 (0 : Fin 1) r d := by
    refine ⟨y 1, y 2, ?_⟩
    idx_ext
  have hN : t.val < 128 := t.isLt
  have hr := r.isLt
  rw [show ((View.whole main_v0).slice (win0_11.rect t)).emb (ix3 0 r d)
      = ix3 (⟨t.val / 16, by omega⟩ : Fin 8) (⟨t.val % 16 * 256 + r.val, by omega⟩ : Fin 4096) d by
    blk_ext [idx t]]
  rw [Block.store_apply]
  exact (congrFun (congrArg₂ out (token_eq m c t r _ _ rfl rfl) (weights_eq m c t)) d).trans (Whole.v69_apply ..).symm

end Layer.Ffn.Value

end
-- ==== Proof.AttnMath.lean ====
/-
  The real numbers behind the attention: sums of exponentials shifted by any number, how a shift is changed, and that
  the quotient of two of them does not depend on the shift.
-/
module

public import Idealize.ShloMosaic.PureOps.Ideal

@[expose] public section

noncomputable section

namespace Layer.Attn

open Idealize.ShloMosaic

/-- The softmax's denominator over the first `n` keys with scores `s`, shifted by `μ`. -/
def den (s : ℕ → ℝ) (n : ℕ) (μ : ℝ) : ℝ := ∑ j : Fin n, Real.exp (s j - μ)

/-- The softmax's numerator over the first `n` keys with scores `s` and values `v`. -/
def num (s v : ℕ → ℝ) (n : ℕ) (μ : ℝ) : ℝ := ∑ j : Fin n, v j * Real.exp (s j - μ)

/-- A sum of exponentials over at least one key is positive. -/
theorem den_pos (s : ℕ → ℝ) {n : ℕ} (h : 0 < n) (μ : ℝ) : 0 < den s n μ := by
  haveI : Nonempty (Fin n) := ⟨⟨0, h⟩⟩
  exact Finset.sum_pos (fun _ _ => Real.exp_pos _) Finset.univ_nonempty

/-- Another shift multiplies the denominator by a power of e. -/
theorem den_shift (s : ℕ → ℝ) (n : ℕ) (μ ν : ℝ) :
    Real.exp (μ - ν) * den s n μ = den s n ν := by
  unfold den
  rw [Finset.mul_sum]
  refine Finset.sum_congr rfl fun j _ => ?_
  rw [← Real.exp_add]; congr 1; ring

/-- Another shift multiplies the numerator by the same power of e. -/
theorem num_shift (s v : ℕ → ℝ) (n : ℕ) (μ ν : ℝ) :
    Real.exp (μ - ν) * num s v n μ = num s v n ν := by
  unfold num
  rw [Finset.mul_sum]
  refine Finset.sum_congr rfl fun j _ => ?_
  rw [show s j - ν = (μ - ν) + (s j - μ) by ring, Real.exp_add]; ring

/-- One more chunk of `q` keys: the old denominator rescaled plus the chunk's. -/
theorem den_step (s : ℕ → ℝ) (n q : ℕ) (μ ν : ℝ) :
    Real.exp (μ - ν) * den s n μ + ∑ a : Fin q, Real.exp (s (n + a) - ν) = den s (n + q) ν := by
  rw [den_shift]
  unfold den
  rw [Fin.sum_univ_add]
  simp only [Fin.val_castAdd, Fin.val_natAdd]

/-- One more chunk of `q` keys: the old numerator rescaled plus the chunk's. -/
theorem num_step (s v : ℕ → ℝ) (n q : ℕ) (μ ν : ℝ) :
    num s v n μ * Real.exp (μ - ν) + ∑ a : Fin q, v (n + a) * Real.exp (s (n + a) - ν)
      = num s v (n + q) ν := by
  rw [mul_comm (num s v n μ), num_shift]
  unfold num
  rw [Fin.sum_univ_add]
  simp only [Fin.val_castAdd, Fin.val_natAdd]

/-- The softmax's mean of the values: the same for every shift. -/
def mean (s v : ℕ → ℝ) (n : ℕ) : ℝ := num s v n 0 / den s n 0

/-- The quotient of the two sums does not depend on the shift. -/
theorem mean_eq (s v : ℕ → ℝ) {n : ℕ} (h : 0 < n) (μ : ℝ) :
    num s v n μ / den s n μ = mean s v n := by
  unfold mean
  rw [← num_shift s v n μ 0, ← den_shift s n μ 0,
    mul_div_mul_left _ _ (Real.exp_pos _).ne']

/-- The differential attention of one query and one value coordinate: the mean under the first map
less `lam` times the mean under the second. -/
def diff (s₁ s₂ v : ℕ → ℝ) (lam : ℝ) (n : ℕ) : ℝ := mean s₁ v n - lam * mean s₂ v n

/-- The values under the difference of the two softmaxes. -/
theorem sum_diff (s₁ s₂ v : ℕ → ℝ) (lam : ℝ) {n : ℕ} (h : 0 < n) (μ ν : ℝ) :
    ∑ j : Fin n, v j * (Real.exp (s₁ j - μ) / den s₁ n μ - lam * (Real.exp (s₂ j - ν) / den s₂ n ν))
      = diff s₁ s₂ v lam n := by
  unfold diff
  rw [← mean_eq s₁ v h μ, ← mean_eq s₂ v h ν]
  unfold num
  rw [Finset.sum_div, Finset.sum_div, Finset.mul_sum, ← Finset.sum_sub_distrib]
  refine Finset.sum_congr rfl fun j _ => ?_
  ring

/-! The same numbers as extended reals. -/

/-- A sum of real numbers read as extended reals. -/
theorem coe_sum {ι : Type*} (S : Finset ι) (f : ι → ℝ) :
    ∑ j ∈ S, ((f j : ℝ) : EReal) = ((∑ j ∈ S, f j : ℝ) : EReal) := by
  classical
  induction S using Finset.induction_on with
  | empty => simp
  | insert a S ha ih => rw [Finset.sum_insert ha, Finset.sum_insert ha, ih, EReal.coe_add]

/-- A division of real numbers by a positive one. -/
theorem div_real (x : ℝ) {y : ℝ} (h : 0 < y) :
    Ideal.div (x : EReal) (y : EReal) = ((x / y : ℝ) : EReal) := by
  rw [Ideal.div_coe h.ne', ← EReal.coe_mul]; congr 1; ring

/-- The exponential of a difference of real numbers. -/
theorem exp_sub (x y : ℝ) :
    Ideal.exp ((x : EReal) - (y : EReal)) = ((Real.exp (x - y) : ℝ) : EReal) := by
  rw [← EReal.coe_sub, Ideal.exp_coe]

/-- The maximum of reals, taken from −∞, is a real where there is one at least. -/
theorem fold_max_real {n : ℕ} (h : 0 < n) (f : Fin n → ℝ) :
    ∃ μ : ℝ, Finset.univ.fold max (⊥ : EReal) (fun j => (f j : EReal)) = (μ : EReal) := by
  have hlt : Finset.univ.fold max (⊥ : EReal) (fun j => (f j : EReal)) < ⊤ :=
    (Finset.fold_max_lt _).2 ⟨bot_lt_top, fun j _ => EReal.coe_lt_top _⟩
  have hgt : ⊥ < Finset.univ.fold max (⊥ : EReal) (fun j => (f j : EReal)) :=
    (Finset.lt_fold_max _).2 (.inr ⟨⟨0, h⟩, Finset.mem_univ _, EReal.bot_lt_coe _⟩)
  exact ⟨_, (EReal.coe_toReal hlt.ne hgt.ne').symm⟩

/-- A sum of products of reals. -/
theorem sum_mul_real {n : ℕ} {a b : Fin n → EReal} (f g : Fin n → ℝ) (ha : ∀ j, a j = (f j : EReal))
    (hb : ∀ j, b j = (g j : EReal)) :
    ∑ j, a j * b j = ((∑ j, f j * g j : ℝ) : EReal) := by
  rw [← coe_sum]
  exact Finset.sum_congr rfl fun j _ => by rw [ha, hb, EReal.coe_mul]

/-- A sum of reals. -/
theorem sum_real {n : ℕ} {a : Fin n → EReal} (f : Fin n → ℝ) (ha : ∀ j, a j = (f j : EReal)) :
    ∑ j, a j = ((∑ j, f j : ℝ) : EReal) := by
  rw [← coe_sum]
  exact Finset.sum_congr rfl fun j _ => ha j

/-- One row's softmax in extended reals, with the row's maximum as the shift. -/
def weight {n : ℕ} (S : Fin n → EReal) (j : Fin n) : EReal :=
  Ideal.div (Ideal.exp (S j - max ⊥ (Finset.univ.fold max ⊥ S))) (∑ x, Ideal.exp (S x - max ⊥ (Finset.univ.fold max ⊥ S)))

/-- On real scores the weights are the real softmax's, with some real shift. -/
theorem weight_real {n : ℕ} (h : 0 < n) {S : Fin n → EReal} (s : ℕ → ℝ) (hs : ∀ j, S j = (s j : EReal)) :
    ∃ μ : ℝ, ∀ j, weight S j = ((Real.exp (s j - μ) / den s n μ : ℝ) : EReal) := by
  obtain ⟨μ, hμ⟩ := fold_max_real h (fun j => s j)
  refine ⟨μ, fun j => ?_⟩
  unfold weight
  obtain rfl : S = fun j : Fin n => (s j : EReal) := funext hs
  rw [hμ, max_eq_right bot_le, exp_sub, sum_real (fun x => Real.exp (s x - μ)) (fun x => exp_sub _ _)]
  exact div_real _ (den_pos s h μ)

/-- The values under the difference of two softmaxes in extended reals, on real scores and values. -/
theorem attend {n : ℕ} (h : 0 < n) {S₁ S₂ v : Fin n → EReal} {lam : EReal} (s₁ s₂ w : ℕ → ℝ) (l : ℝ)
    (h₁ : ∀ j, S₁ j = (s₁ j : EReal)) (h₂ : ∀ j, S₂ j = (s₂ j : EReal)) (hv : ∀ j, v j = (w j : EReal)) (hl : lam = (l : EReal)) :
    ∑ j, v j * (weight S₁ j - lam * weight S₂ j) = (diff s₁ s₂ w l n : EReal) := by
  obtain ⟨μ, hμ⟩ := weight_real h s₁ h₁
  obtain ⟨ν, hν⟩ := weight_real h s₂ h₂
  rw [← sum_diff s₁ s₂ w l h μ ν]
  refine sum_mul_real (fun j => w j) _ hv fun j => ?_
  rw [hμ, hν, hl, ← EReal.coe_mul, ← EReal.coe_sub]

/-- The normalisation over the 128 coordinates of a head with its gain, times the rounded 4/5. -/
def head (o g : Fin 128 → EReal) (d : Fin 128) : EReal :=
  o d * Ideal.rsqrt (Ideal.div (∑ e, o e * o e) (Ideal.ofBits .f32 0x43000000#32)
    + Ideal.ofBits .f32 0x358637BD#32) * g d * Ideal.ofBits .f32 0x3F4CCCCD#32

/-- The weight of the second map, from the two rows of scalars. -/
def lamE (a b : Fin 2 → Fin 64 → EReal) : EReal :=
  Ideal.exp (∑ k, a 0 k * b 0 k) - Ideal.exp (∑ k, a 1 k * b 1 k)
    + Ideal.ofBits .f32 0x3E4CCCCD#32

/-- The scores of a head's query under the first map (`o = 0`) or the second (`o = 64`). -/
def score (K Q : ℕ → ℕ → ℝ) (o x j : ℕ) : ℝ := ∑ k : Fin 64, K j (o + k) * Q (o + k) x

/-- The scores of lane `x`: the first 256 lanes are the first map, the others the second. -/
def lane (K Q : ℕ → ℕ → ℝ) (x : ℕ) : ℕ → ℝ :=
  if x < 256 then score K Q 0 x else score K Q 64 (x - 256)

/-- The number of keys that a tile's queries see: the context's for the context's own tile, all of them for the others. -/
def keys (i : ℕ) : ℕ := if i = 0 then 256 else 4352

end Layer.Attn

end
-- ==== Proof.AttnBlock.lean ====
/-
  What the kernel's vector arithmetic computes on real data: the first chunk of 256 keys, one further chunk of 512 keys,
  and the normalised difference at the end.
-/
module

public import proofs.«01_k».proof.Proof.AttnMath
public import proofs.«01_k».proof.Proof.Gen.KernelIdeal.Value
public import Idealize.ShloMosaic.Lib.Pointwise

@[expose] public section

set_option maxRecDepth 16384

noncomputable section

namespace Layer.Attn.Block

open Idealize.ShloMosaic Cert.KernelIdeal Cert.KernelIdeal.Gen

/-- The scratch contents after `n` keys: in every lane the running maximum is some real `μ`, and the sums are the
softmax's numerators and denominator shifted by it. -/
def Inv (s : ℕ → ℕ → ℝ) (v : ℕ → ℕ → ℝ) (n : ℕ) (acc : Vec Ideal S128x512 .f32) (m l : Vec Ideal S1x512 .f32) : Prop :=
  ∀ x : Fin 512, ∃ μ : ℝ, m (ix2 0 x) = (μ : EReal) ∧ l (ix2 0 x) = (den (s x) n μ : EReal)
    ∧ ∀ d : Fin 128, acc (ix2 d x) = (num (s x) (v d) n μ : EReal)

variable (K Q V : ℕ → ℕ → ℝ)

/-- The two masked copies of the queries side by side. -/
theorem pay14_apply (q : Vec Ideal S1x1x128x256 .bf16)
    (hq : ∀ (k : Fin 128) (r : Fin 256), q (ix4 0 0 k r) = (Q k r : EReal)) (k : Fin 128) (x : Fin 512) :
    k0_pay14 (F := Ideal) q (ix2 k x)
      = ((if x.val < 256 then (if k.val < 64 then Q k x else 0) else if k.val < 64 then 0 else Q k (x - 256) : ℝ) : EReal) := by
  pointwise [k0_pay14]
  have h1 : IntOp.cmpi CmpIPredicate.slt (BitVec.ofNat 32 k.val) 64#32 = if k.val < 64 then 1#1 else 0#1 :=
    (by decide +kernel : ∀ k : Fin 128, IntOp.cmpi CmpIPredicate.slt (BitVec.ofNat 32 k.val) 64#32 = if k.val < 64 then 1#1 else 0#1) k
  have h2 : IntOp.cmpi CmpIPredicate.sge (BitVec.ofNat 32 k.val) 64#32 = if k.val < 64 then 0#1 else 1#1 :=
    (by decide +kernel : ∀ k : Fin 128, IntOp.cmpi CmpIPredicate.sge (BitVec.ofNat 32 k.val) 64#32 = if k.val < 64 then 0#1 else 1#1) k
  rw [h1, h2]
  split_ifs <;> simp [Scalar.select, hq]

/-- A key against one lane: the 64-deep score of the lane's map. -/
theorem dot_lane (q : Vec Ideal S1x1x128x256 .bf16)
    (hq : ∀ (k : Fin 128) (r : Fin 256), q (ix4 0 0 k r) = (Q k r : EReal)) (row : Fin 128 → EReal) (j : ℕ)
    (hrow : ∀ k, row k = (K j k : EReal)) (x : Fin 512) :
    ∑ k, row k * k0_pay14 (F := Ideal) q (ix2 k x) = (lane K Q x j : EReal) := by
  rw [sum_mul_real _ _ hrow (fun k => pay14_apply Q q hq k x)]
  congr 1
  refine (Fin.sum_univ_add (a := 64) (b := 64) _).trans ?_
  unfold lane score
  have e1 : ∀ a : Fin 64, a.val < 64 := fun a => a.isLt
  have e2 : ∀ a : Fin 64, ¬ 64 + a.val < 64 := fun a => by simp
  by_cases h : x.val < 256
  · simp only [h, if_true, e1, e2, if_false, Fin.val_castAdd, Fin.val_natAdd, mul_zero, Finset.sum_const_zero, add_zero, zero_add]
  · simp only [h, if_true, e1, e2, if_false, Fin.val_castAdd, Fin.val_natAdd, mul_zero, Finset.sum_const_zero, zero_add]

/-- The words of −∞ read as the least extended real. -/
theorem ofBits_bot : Ideal.ofBits FTy.f32 4286578688#32 = ⊥ := by
  simp [Ideal.ofBits, Ideal.ieee]

/-- The first chunk establishes the invariant at 256 keys. -/
theorem first (q : Vec Ideal S1x1x128x256 .bf16) (kc : Vec Ideal S1x256x128 .bf16) (vc : Vec Ideal S1x1x128x256 .bf16)
    (hq : ∀ (k : Fin 128) (r : Fin 256), q (ix4 0 0 k r) = (Q k r : EReal))
    (hk : ∀ (j : Fin 256) (k : Fin 128), kc (ix3 0 j k) = (K j k : EReal))
    (hv : ∀ (d : Fin 128) (j : Fin 256), vc (ix4 0 0 d j) = (V d j : EReal)) :
    Inv (lane K Q) V 256 (k0_pay20 (k0_pay17 q kc) vc) (k0_pay18 q kc) (k0_pay19 q kc) := by
  intro x
  have hs : ∀ j : Fin 256, k0_pay15 (F := Ideal) q kc (ix2 j x) = (lane K Q x j : EReal) := by
    intro j
    pointwise [k0_pay15]
    exact dot_lane K Q q hq _ j (hk j) x
  obtain ⟨μ, hμ⟩ := fold_max_real (n := 256) (by decide) (fun j => lane K Q x j)
  have hm : k0_pay16 (F := Ideal) q kc (ix2 0 x) = (μ : EReal) := by
    pointwise [k0_pay16]
    simp only [hs, ofBits_bot]
    exact hμ
  have hp : ∀ j : Fin 256, k0_pay17 (F := Ideal) q kc (ix2 j x) = (Real.exp (lane K Q x j - μ) : EReal) := by
    intro j
    pointwise [k0_pay17]
    rw [hs, hm, exp_sub]
  refine ⟨μ, ?_, ?_, fun d => ?_⟩
  · pointwise [k0_pay18]; exact hm
  · pointwise [k0_pay19]; exact sum_real _ hp
  · pointwise [k0_pay20]; exact sum_mul_real _ _ (hv d) hp

/-- One further chunk of 512 keys, its values in two tiles. -/
theorem step (n : ℕ) (q : Vec Ideal S1x1x128x256 .bf16) (kc : Vec Ideal S1x512x128 .bf16) (va vb : Vec Ideal S1x1x128x256 .bf16)
    (acc : Vec Ideal S128x512 .f32) (m l : Vec Ideal S1x512 .f32)
    (hq : ∀ (k : Fin 128) (r : Fin 256), q (ix4 0 0 k r) = (Q k r : EReal))
    (hk : ∀ (j : Fin 512) (k : Fin 128), kc (ix3 0 j k) = (K (n + j) k : EReal))
    (hva : ∀ (d : Fin 128) (j : Fin 256), va (ix4 0 0 d j) = (V d (n + j) : EReal))
    (hvb : ∀ (d : Fin 128) (j : Fin 256), vb (ix4 0 0 d j) = (V d (n + (256 + j)) : EReal))
    (h : Inv (lane K Q) V n acc m l) :
    Inv (lane K Q) V (n + 512)
      (k0_pay21 (k0_pay4 (k0_pay14 q) kc m) (k0_pay5 (k0_pay14 q) kc m) (k0_pay7 va vb) acc)
      (k0_pay22 (k0_pay3 (k0_pay14 q) kc m)) (k0_pay6 (k0_pay14 q) kc m l) := by
  intro x
  obtain ⟨μ, hμ, hl, hacc⟩ := h x
  have hs : ∀ j : Fin 512, k0_pay2 (F := Ideal) (k0_pay14 q) kc (ix2 j x) = (lane K Q x (n + j) : EReal) := by
    intro j
    pointwise [k0_pay2]
    exact dot_lane K Q q hq _ (n + j) (hk j) x
  obtain ⟨ν', hν'⟩ := fold_max_real (n := 512) (by decide) (fun j => lane K Q x (n + j))
  obtain ⟨ν, hν⟩ : ∃ ν : ℝ, k0_pay3 (F := Ideal) (k0_pay14 q) kc m (ix2 0 x) = (ν : EReal) := by
    refine ⟨max μ ν', ?_⟩
    pointwise [k0_pay3]
    simp only [hs, ofBits_bot, hμ]
    rw [hν', EReal.coe_strictMono.monotone.map_max]
  have ha : k0_pay4 (F := Ideal) (k0_pay14 q) kc m (ix2 0 x) = (Real.exp (μ - ν) : EReal) := by
    pointwise [k0_pay4]
    rw [hμ, hν, exp_sub]
  have hp : ∀ j : Fin 512, k0_pay5 (F := Ideal) (k0_pay14 q) kc m (ix2 j x) = (Real.exp (lane K Q x (n + j) - ν) : EReal) := by
    intro j
    pointwise [k0_pay5]
    rw [hs, hν, exp_sub]
  have hv : ∀ (d : Fin 128) (j : Fin 512), k0_pay7 (F := Ideal) va vb (ix2 d j) = (V d (n + j) : EReal) := by
    intro d j
    pointwise [k0_pay7]
    by_cases hj : j.val < 256
    · exact (dif_pos hj).trans (hva d ⟨j, hj⟩)
    · refine (dif_neg hj).trans ((hvb d ⟨j - 256, by omega⟩).trans ?_)
      simp only [show 256 + (j.val - 256) = j.val by omega]
  refine ⟨ν, ?_, ?_, fun d => ?_⟩
  · pointwise [k0_pay22]; exact hν
  · pointwise [k0_pay6]
    rw [ha, hl, sum_real _ hp, ← EReal.coe_mul, ← EReal.coe_add, den_step]
  · pointwise [k0_pay21]
    rw [ha, hacc, sum_mul_real _ _ (hv d) hp, ← EReal.coe_mul, ← EReal.coe_add, mul_comm, num_step]

/-- The stored block from the scratch contents after `n` keys: the normalised difference of the two means. -/
theorem last (n : ℕ) (hn : 0 < n) (acc : Vec Ideal S128x512 .f32) (m l : Vec Ideal S1x512 .f32)
    (lq lk : Vec Ideal S2x64 .f32) (g : Vec Ideal S1x128 .f32) (lam : ℝ)
    (hlam : lamE (fun a k => lq (ix2 a k)) (fun a k => lk (ix2 a k)) = (lam : EReal))
    (h : Inv (lane K Q) V n acc m l) (r : Fin 256) (d : Fin 128) :
    k0_pay1 (F := Ideal) (k0_pay25 lq lk) (k0_pay27 acc l) (k0_pay28 acc) (k0_pay29 l) g (ix3 0 r d)
      = head (fun e => (diff (score K Q 0 r) (score K Q 64 r) (V e) lam n : EReal)) (fun e => g (ix2 0 e)) d := by
  have hL : k0_pay25 (F := Ideal) lq lk (ix2 0 0) = (lam : EReal) := by
    rw [← hlam]; pointwise [k0_pay25, lamE]
  obtain ⟨μ, -, hl, hacc⟩ := h ⟨r, by omega⟩
  obtain ⟨ν, -, hl', hacc'⟩ := h ⟨256 + r, by omega⟩
  have e1 : lane K Q r.val = score K Q 0 r := by unfold lane; rw [if_pos r.isLt]
  have e2 : lane K Q (256 + r.val) = score K Q 64 r := by
    unfold lane; rw [if_neg (by omega), show 256 + r.val - 256 = r.val by omega]
  simp only [e1] at hl hacc
  simp only [e2] at hl' hacc'
  have hi : ∀ (x : Fin 512) (z : ℝ), 0 < z → l (ix2 0 x) = (z : EReal) → k0_pay26 (F := Ideal) l (ix2 0 x) = ((1 / z : ℝ) : EReal) := by
    intro x z hz hx
    pointwise [k0_pay26]
    rw [hx]
    exact div_real 1 hz
  have o : ∀ e : Fin 128, k0_pay27 (F := Ideal) acc l (ix2 e r)
      - k0_pay25 (F := Ideal) lq lk (ix2 0 0) * (k0_pay28 (F := Ideal) acc (ix2 e r) * k0_pay29 (F := Ideal) l (ix2 e r))
      = (diff (score K Q 0 r) (score K Q 64 r) (V e) lam n : EReal) := by
    intro e
    rw [hL]
    pointwise [k0_pay27, k0_pay28, k0_pay29]
    rw [hi _ _ (den_pos _ hn _) hl, hi _ _ (den_pos _ hn _) hl', hacc, hacc', ← EReal.coe_mul, ← EReal.coe_mul,
      ← EReal.coe_mul, ← EReal.coe_sub]
    unfold diff
    rw [← mean_eq _ _ hn μ, ← mean_eq (score K Q 64 r) _ hn ν]
    congr 1; ring
  pointwise [k0_pay1]
  simp only [o]
  rfl

end Layer.Attn.Block

end
-- ==== Proof.AttnLoop.lean ====
/-
  What the kernel's loop over chunks of 512 keys leaves in its three scratch buffers: after `k` trips the invariant of
  AttnBlock holds at 256 + 512·k keys.
-/
module

public import proofs.«01_k».proof.Proof.AttnBlock
public import Idealize.ShloMosaic.Lib.Pipeline.ValueKit
public import Idealize.ShloMosaic.Lib.VecWindow

@[expose] public section

set_option maxRecDepth 16384

noncomputable section

namespace Layer.Attn.Loop

open Idealize.ShloMosaic Idealize.ShloMosaic.TcCoe Idealize.SL.Sem
open Cert.KernelIdeal Cert.KernelIdeal.Gen

/-- The loop runs no trip for the tile of context queries and eight for the others. -/
theorem trips_one (i : grid0.Coords) : (k0_t1_loop i).trips = if (i 2).val = 0 then 0 else 8 := by
  have h : ∀ z : Fin 17, ∀ j : grid0.Coords, j 2 = z → (k0_t1_loop j).trips = if z.val = 0 then 0 else 8 := by
    intro z j hj
    unfold k0_t1_loop
    rw [hj]
    clear hj
    revert z
    decide +kernel
  exact h _ i rfl

/-- The loop over remaining chunks runs no trip. -/
theorem trips_two (i : grid0.Coords) : (k0_t2_loop i).trips = 0 := by
  have h : ∀ z : Fin 17, ∀ j : grid0.Coords, j 2 = z → (k0_t2_loop j).trips = 0 := by
    intro z j hj
    unfold k0_t2_loop
    rw [hj]
    clear hj
    revert z
    decide +kernel
  exact h _ i rfl

/-- Where trip `k` reads its keys and its two tiles of values. -/
theorem offsets : ∀ k : Fin 8,
    BitVec.toNat (Scalar.indexCast (Scalar.addi (256#32) (Scalar.muli (Scf.iv 0#32 1#32 k.val) 512#32))) = 256 + 512 * k.val
    ∧ BitVec.toNat (Scalar.indexCast (Scalar.addi (Scalar.muli (2#32) (Scf.iv 0#32 1#32 k.val)) 1#32)) = 2 * k.val + 1
    ∧ BitVec.toNat (Scalar.indexCast (Scalar.addi (Scalar.muli (2#32) (Scf.iv 0#32 1#32 k.val)) 2#32)) = 2 * k.val + 2 := by
  decide +kernel

variable (c : Dev nD) (i : grid0.Coords) (arg3 : Memref sig .tc .vmem S1x1x128x256 .bf16) (harg3 : arg3.IsWhole)
  (arg4 : Memref sig .tc .vmem S1x4352x128 .bf16) (harg4 : arg4.IsWhole) (arg5 : Memref sig .tc .vmem S1x17x128x256 .bf16)
  (harg5 : arg5.IsWhole) (arg6 : Memref sig .tc .vmem S2x64 .f32) (harg6 : arg6.IsWhole) (arg7 : Memref sig .tc .vmem S2x64 .f32)
  (harg7 : arg7.IsWhole) (arg8 : Memref sig .tc .vmem S1x128 .f32) (harg8 : arg8.IsWhole) (arg9 : Memref sig .tc .vmem S1x256x128 .bf16)
  (harg9 : arg9.IsWhole) (arg10 : Memref sig .tc .vmem S128x512 .f32) (harg10 : arg10.IsWhole) (arg11 : Memref sig .tc .vmem S1x512 .f32)
  (harg11 : arg11.IsWhole) (arg12 : Memref sig .tc .vmem S1x512 .f32) (harg12 : arg12.IsWhole) (v0 : BitVec 32)
  (v22 : FVec Ideal S256x512 .f32) (v31 : Vec Ideal S1x1x128x256 .bf16)
  (X4 : BufTy.Contents (Elt Ideal) arg4.view.ty) (X5 : BufTy.Contents (Elt Ideal) arg5.view.ty)
  (G10 : BufTy.Contents (Elt Ideal) arg10.view.ty) (G11 : BufTy.Contents (Elt Ideal) arg11.view.ty)
  (G12 : BufTy.Contents (Elt Ideal) arg12.view.ty)
  (K Q V : ℕ → ℕ → ℝ) (q : Vec Ideal S1x1x128x256 .bf16)

/-- One trip takes the invariant from `256 + 512·k` keys to 512 keys more. -/
theorem trip (hq : ∀ (k : Fin 128) (r : Fin 256), q (ix4 0 0 k r) = (Q k r : EReal))
    (hk : ∀ (j : Fin 4352) (k : Fin 128), View.read (Elt Ideal) arg4.view X4 (ix3 0 j k) = (K j k : EReal))
    (hv : ∀ (a : Fin 17) (d : Fin 128) (r : Fin 256), View.read (Elt Ideal) arg5.view X5 (ix4 0 a d r) = (V d (a * 256 + r) : EReal))
    (k : Fin (k0_t1_loop i).trips) (hk8 : k.val < 8)
    (h : Block.Inv (lane K Q) V (256 + 512 * k) (View.read (Elt Ideal) arg10.view G10) (View.read (Elt Ideal) arg11.view G11)
      (View.read (Elt Ideal) arg12.view G12)) :
    let L := tripL_k0_t1 (F := Ideal) Variants.none c none i arg3 harg3 arg4 harg4 arg5 harg5 arg6 harg6 arg7 harg7 arg8 harg8 arg9 harg9
      arg10 harg10 arg11 harg11 arg12 harg12 v0 (k0_pay14 q) v22 v31 X4 X5 k G10 G11 G12
    Block.Inv (lane K Q) V (256 + 512 * (k + 1)) (View.read (Elt Ideal) arg10.view (arg10.view.writes (Elt Ideal) G10 L.1))
      (View.read (Elt Ideal) arg11.view (arg11.view.writes (Elt Ideal) G11 L.2.1))
      (View.read (Elt Ideal) arg12.view (arg12.view.writes (Elt Ideal) G12 L.2.2)) := by
  obtain ⟨o1, o2, o3⟩ := offsets ⟨k, hk8⟩
  unfold tripL_k0_t1 trip_k0_t1
  dsimp only
  sl_unfold_words
  simp only [View.readAt_eq_ld]
  have r10 : ∀ w : S128x512.Idx → Ideal .f32, View.read (Elt Ideal) arg10.view (arg10.view.writes (Elt Ideal) G10
      [⟨Rect.unit ![0, 0] ![128, 512] inb_S128x512_S128x512_0_0, w⟩]) = w := fun w =>
    View.read_writes_full arg10.view G10 inb_S128x512_S128x512_0_0 w []
  have r11 : ∀ w : S1x512.Idx → Ideal .f32, View.read (Elt Ideal) arg11.view (arg11.view.writes (Elt Ideal) G11
      [⟨Rect.unit ![0, 0] ![1, 512] inb_S1x512_S1x512_0_0, w⟩]) = w := fun w =>
    View.read_writes_full arg11.view G11 inb_S1x512_S1x512_0_0 w []
  have r12 : ∀ w : S1x512.Idx → Ideal .f32, View.read (Elt Ideal) arg12.view (arg12.view.writes (Elt Ideal) G12
      [⟨Rect.unit ![0, 0] ![1, 512] inb_S1x512_S1x512_0_0, w⟩]) = w := fun w =>
    View.read_writes_full arg12.view G12 inb_S1x512_S1x512_0_0 w []
  have l10 : ∀ w : S128x512.Idx → Ideal .f32,
      View.ld (Val := Elt Ideal) (e' := .f32) w (Rect.unit (s := S128x512) ![0, 0] ![128, 512] inb_S128x512_S128x512_0_0) = w := fun w =>
    View.ld_unit_lit' (Val := Elt Ideal) (S := S128x512) (e := .f32) inb_S128x512_S128x512_0_0 w (by decide)
  have l11 : ∀ w : S1x512.Idx → Ideal .f32,
      View.ld (Val := Elt Ideal) (e' := .f32) w (Rect.unit (s := S1x512) ![0, 0] ![1, 512] inb_S1x512_S1x512_0_0) = w := fun w =>
    View.ld_unit_lit' (Val := Elt Ideal) (S := S1x512) (e := .f32) inb_S1x512_S1x512_0_0 w (by decide)
  rw [r10, r11, r12, l10, l11, l11]
  refine Block.step K Q V (256 + 512 * k) q _ _ _ _ _ _ hq (fun j d => ?_) (fun d j => ?_) (fun d j => ?_) h
  · refine (View.ld_unit_apply_of _ _ _ _ _ (ix3 0 ⟨256 + 512 * k + j, by omega⟩ d) ?_).trans (hk _ _)
    intro a
    match a with
    | ⟨0, _⟩ => rfl
    | ⟨1, _⟩ => exact congrArg (· + j.val) o1.symm
    | ⟨2, _⟩ => exact (Nat.zero_add _).symm
  · refine (View.ld_unit_apply_of _ _ _ _ _ (ix4 0 ⟨2 * k + 1, by omega⟩ d j) ?_).trans ((hv _ _ _).trans ?_)
    · intro a
      match a with
      | ⟨0, _⟩ => rfl
      | ⟨1, _⟩ => exact o2.symm
      | ⟨2, _⟩ => exact (Nat.zero_add _).symm
      | ⟨3, _⟩ => exact (Nat.zero_add _).symm
    · rw [show (2 * k.val + 1) * 256 + j.val = 256 + 512 * k.val + j.val by omega]
  · refine (View.ld_unit_apply_of _ _ _ _ _ (ix4 0 ⟨2 * k + 2, by omega⟩ d j) ?_).trans ((hv _ _ _).trans ?_)
    · intro a
      match a with
      | ⟨0, _⟩ => rfl
      | ⟨1, _⟩ => exact o3.symm
      | ⟨2, _⟩ => exact (Nat.zero_add _).symm
      | ⟨3, _⟩ => exact (Nat.zero_add _).symm
    · rw [show (2 * k.val + 2) * 256 + j.val = 256 + 512 * k.val + (256 + j.val) by omega]

/-- After `k` trips the invariant holds at `256 + 512·k` keys. -/
theorem trips (hq : ∀ (k : Fin 128) (r : Fin 256), q (ix4 0 0 k r) = (Q k r : EReal))
    (hk : ∀ (j : Fin 4352) (k : Fin 128), View.read (Elt Ideal) arg4.view X4 (ix3 0 j k) = (K j k : EReal))
    (hv : ∀ (a : Fin 17) (d : Fin 128) (r : Fin 256), View.read (Elt Ideal) arg5.view X5 (ix4 0 a d r) = (V d (a * 256 + r) : EReal))
    (h : Block.Inv (lane K Q) V 256 (View.read (Elt Ideal) arg10.view G10) (View.read (Elt Ideal) arg11.view G11)
      (View.read (Elt Ideal) arg12.view G12)) (k : ℕ) (hk8 : k ≤ (k0_t1_loop i).trips) :
    let L := pb_k0_t1 (F := Ideal) Variants.none c none i arg3 harg3 arg4 harg4 arg5 harg5 arg6 harg6 arg7 harg7 arg8 harg8 arg9 harg9
      arg10 harg10 arg11 harg11 arg12 harg12 v0 (k0_pay14 q) v22 v31 X4 X5 G10 G11 G12 k
    Block.Inv (lane K Q) V (256 + 512 * k) (View.read (Elt Ideal) arg10.view (arg10.view.writes (Elt Ideal) G10 L.1))
      (View.read (Elt Ideal) arg11.view (arg11.view.writes (Elt Ideal) G11 L.2.1))
      (View.read (Elt Ideal) arg12.view (arg12.view.writes (Elt Ideal) G12 L.2.2)) := by
  induction k with
  | zero => exact h
  | succ k ih =>
    have hlt : k < 8 := by rw [trips_one] at hk8; split_ifs at hk8 <;> omega
    have e := pb_k0_t1_succ (F := Ideal) Variants.none c none i arg3 harg3 arg4 harg4 arg5 harg5 arg6 harg6 arg7 harg7 arg8 harg8 arg9 harg9
      arg10 harg10 arg11 harg11 arg12 harg12 v0 (k0_pay14 q) v22 v31 X4 X5 G10 G11 G12 ⟨k, hk8⟩
    dsimp only at e ⊢
    rw [e]
    dsimp only
    rw [View.writes_append, View.writes_append, View.writes_append]
    exact trip c i arg3 harg3 arg4 harg4 arg5 harg5 arg6 harg6 arg7 harg7 arg8 harg8 arg9 harg9 arg10 harg10 arg11 harg11 arg12 harg12 v0
      v22 v31 X4 X5 _ _ _ K Q V q hq hk hv ⟨k, hk8⟩ hlt (ih (Nat.le_of_succ_le hk8))

end Layer.Attn.Loop

end
-- ==== Proof.AttnOut.lean ====
/-
  The block that the kernel stores at a grid point, from the point's loads.
-/
module

public import proofs.«01_k».proof.Proof.AttnLoop

@[expose] public section

set_option maxRecDepth 16384

noncomputable section

namespace Layer.Attn.Out

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N) (K Q V : ℕ → ℕ → ℝ)

/-- A load of a whole scratch buffer after stores that start from nothing. -/
theorem cov0 (L : List (View.Piece (Elt Ideal) S128x512 .f32)) : (View.whole cc0_scratch0).readCov L
    (Rect.unit (s := S128x512) ![0, 0] ![128, 512] inb_S128x512_S128x512_0_0).toLoadRect
      = View.read (Elt Ideal) (View.whole cc0_scratch0) ((View.whole cc0_scratch0).writes (Elt Ideal) (View.whole cc0_scratch0).junk L) :=
  View.ld_unit_lit' (Val := Elt Ideal) (S := S128x512) (e := .f32) inb_S128x512_S128x512_0_0 _ (by decide)

/-- Reading the third scratch array whole, after stores that cover it. -/
theorem cov2 (L : List (View.Piece (Elt Ideal) S1x512 .f32)) : (View.whole cc0_scratch2).readCov L
    (Rect.unit (s := S1x512) ![0, 0] ![1, 512] inb_S1x512_S1x512_0_0).toLoadRect
      = View.read (Elt Ideal) (View.whole cc0_scratch2) ((View.whole cc0_scratch2).writes (Elt Ideal) (View.whole cc0_scratch2).junk L) :=
  View.ld_unit_lit' (Val := Elt Ideal) (S := S1x512) (e := .f32) inb_S1x512_S1x512_0_0 _ (by decide)

/-- The first chunk of keys as the kernel loads it. -/
abbrev k0 : Vec Ideal S1x256x128 .bf16 :=
  View.ld (iblk m c 1 t) (Rect.unit ![0, 0, 0] ![1, 256, 128] inb_S1x4352x128_S1x256x128_0_0_0)

/-- The first tile of values as the kernel loads it. -/
abbrev v0 : Vec Ideal S1x1x128x256 .bf16 :=
  View.ld (iblk m c 2 t) (Rect.unit ![0, 0, 0, 0] ![1, 1, 128, 256] inb_S1x17x128x256_S1x1x128x256_0_0_0_0)

/-- The three scratch buffers after the first chunk. -/
abbrev G0 : BufTy.Contents (Elt Ideal) scM0_0.view.ty :=
  (View.whole cc0_scratch0).writes (Elt Ideal) (View.whole cc0_scratch0).junk
    [⟨Rect.unit ![0, 0] ![128, 512] inb_S128x512_S128x512_0_0, k0_pay20 (k0_pay17 (iblk m c 0 t) (k0 m c t)) (v0 m c t)⟩]

/-- The second scratch array after the first chunk. -/
abbrev G1 : BufTy.Contents (Elt Ideal) scM0_1.view.ty :=
  (View.whole cc0_scratch1).writes (Elt Ideal) (View.whole cc0_scratch1).junk
    [⟨Rect.unit ![0, 0] ![1, 512] inb_S1x512_S1x512_0_0, k0_pay18 (iblk m c 0 t) (k0 m c t)⟩]

/-- The third scratch array after the first chunk. -/
abbrev G2 : BufTy.Contents (Elt Ideal) scM0_2.view.ty :=
  (View.whole cc0_scratch2).writes (Elt Ideal) (View.whole cc0_scratch2).junk
    [⟨Rect.unit ![0, 0] ![1, 512] inb_S1x512_S1x512_0_0, k0_pay19 (iblk m c 0 t) (k0 m c t)⟩]

/-- After the first chunk the invariant holds at 256 keys. -/
theorem start (hq : ∀ (k : Fin 128) (r : Fin 256), iblk m c 0 t (ix4 0 0 k r) = (Q k r : EReal))
    (hk : ∀ (j : Fin 4352) (k : Fin 128), iblk m c 1 t (ix3 0 j k) = (K j k : EReal))
    (hv : ∀ (a : Fin 17) (d : Fin 128) (r : Fin 256), iblk m c 2 t (ix4 0 a d r) = (V d (a * 256 + r) : EReal)) :
    Block.Inv (lane K Q) V 256 (View.read (Elt Ideal) scM0_0.view (G0 m c t)) (View.read (Elt Ideal) scM0_1.view (G1 m c t))
      (View.read (Elt Ideal) scM0_2.view (G2 m c t)) := by
  have e0 : View.read (Elt Ideal) scM0_0.view (G0 m c t) = k0_pay20 (k0_pay17 (iblk m c 0 t) (k0 m c t)) (v0 m c t) :=
    View.read_writes_full (View.whole cc0_scratch0) _ inb_S128x512_S128x512_0_0 _ []
  have e1 : View.read (Elt Ideal) scM0_1.view (G1 m c t) = k0_pay18 (iblk m c 0 t) (k0 m c t) :=
    View.read_writes_full (View.whole cc0_scratch1) _ inb_S1x512_S1x512_0_0 _ []
  have e2 : View.read (Elt Ideal) scM0_2.view (G2 m c t) = k0_pay19 (iblk m c 0 t) (k0 m c t) :=
    View.read_writes_full (View.whole cc0_scratch2) _ inb_S1x512_S1x512_0_0 _ []
  rw [e0, e1, e2]
  refine Block.first K Q V _ _ _ hq (fun j k => ?_) (fun d j => ?_)
  · refine (View.ld_unit_apply_of _ _ _ _ _ (ix3 0 ⟨j, by omega⟩ k) ?_).trans (hk _ _)
    intro a
    match a with
    | ⟨0, _⟩ => rfl
    | ⟨1, _⟩ => exact (Nat.zero_add _).symm
    | ⟨2, _⟩ => exact (Nat.zero_add _).symm
  · refine (View.ld_unit_apply_of _ _ _ _ _ (ix4 0 0 d j) ?_).trans ((hv 0 d j).trans ?_)
    · intro a
      match a with
      | ⟨0, _⟩ => rfl
      | ⟨1, _⟩ => rfl
      | ⟨2, _⟩ => exact (Nat.zero_add _).symm
      | ⟨3, _⟩ => exact (Nat.zero_add _).symm
    · exact congrArg (fun z => ((V d z : ℝ) : EReal)) (Nat.zero_add _)

/-- The stored block: for every query and coordinate the normalised differential attention over the keys its tile sees. -/
theorem stored (hq : ∀ (k : Fin 128) (r : Fin 256), iblk m c 0 t (ix4 0 0 k r) = (Q k r : EReal))
    (hk : ∀ (j : Fin 4352) (k : Fin 128), iblk m c 1 t (ix3 0 j k) = (K j k : EReal))
    (hv : ∀ (a : Fin 17) (d : Fin 128) (r : Fin 256), iblk m c 2 t (ix4 0 a d r) = (V d (a * 256 + r) : EReal)) (lam : ℝ)
    (hlam : lamE (fun a k => iblk m c 3 t (ix2 a k)) (fun a k => iblk m c 4 t (ix2 a k)) = (lam : EReal)) (r : Fin 256) (d : Fin 128) :
    outsAt0 m c t (ix3 0 r d)
      = head (fun e => (diff (score K Q 0 r) (score K Q 64 r) (V e) lam (keys (grid0.coords t 2).val) : EReal))
          (fun e => iblk m c 5 t (ix2 0 e)) d := by
  unfold outsAt0
  frame_out
  have h2 : Scf.trips (Scalar.addi (0#32) (Scalar.muli (Scalar.divsi (Scalar.subi (Scalar.select
      (Scalar.cmpi CmpIPredicate.eq (Scalar.addi (BitVec.ofNat 32 (grid0.coords t 2).val) 0#32) 0#32) 0#32 8#32) 0#32) 1#32) 1#32))
      (Scalar.addi (0#32) (Scalar.subi (Scalar.select (Scalar.cmpi CmpIPredicate.eq
        (Scalar.addi (BitVec.ofNat 32 (grid0.coords t 2).val) 0#32) 0#32) 0#32 8#32) 0#32)) 1#32 = 0 := Loop.trips_two (grid0.coords t)
  have h1 : Scf.trips (0#32) (Scalar.addi (0#32) (Scalar.muli (Scalar.divsi (Scalar.subi (Scalar.select
      (Scalar.cmpi CmpIPredicate.eq (Scalar.addi (BitVec.ofNat 32 (grid0.coords t 2).val) 0#32) 0#32) 0#32 8#32) 0#32) 1#32) 1#32)) 1#32
      = (k0_t1_loop (grid0.coords t)).trips := rfl
  simp only [h2, pb_k0_t2, List.nil_append, h1]
  simp only [cov0, cov2, View.writes_append]
  have hn : 256 + 512 * (k0_t1_loop (grid0.coords t)).trips = keys (grid0.coords t 2).val := by
    rw [Loop.trips_one]; unfold keys; split_ifs <;> rfl
  have key := Loop.trips c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) scM0_0 (Memref.isWhole_whole _) scM0_1 (Memref.isWhole_whole _) scM0_2
    (Memref.isWhole_whole _) (Scalar.addi (BitVec.ofNat 32 (grid0.coords t 2).val) 0#32)
    (k0_pay17 (iblk m c 0 t) (View.ld (iblk m c 1 t) (Rect.unit ![0, 0, 0] ![1, 256, 128] inb_S1x4352x128_S1x256x128_0_0_0)))
    (View.ld (iblk m c 2 t) (Rect.unit ![0, 0, 0, 0] ![1, 1, 128, 256] inb_S1x17x128x256_S1x1x128x256_0_0_0_0))
    ((hs0_1 t).unread (iblk m c 1 t)) ((hs0_2 t).unread (iblk m c 2 t)) (G0 m c t) (G1 m c t) (G2 m c t) K Q V (iblk m c 0 t) hq
    (fun j k => (congrFun ((hs0_1 t).read_unread (iblk m c 1 t)) _).trans (hk j k))
    (fun a d r => (congrFun ((hs0_2 t).read_unread (iblk m c 2 t)) _).trans (hv a d r))
    (start m c t K Q V hq hk hv) (k0_t1_loop (grid0.coords t)).trips le_rfl
  rw [hn] at key
  exact Block.last K Q V _ (by unfold keys; split_ifs <;> decide) _ _ _ _ _ _ lam hlam key r d

end Layer.Attn.Out

end
-- ==== Proof.AttnRef.lean ====
/-
  What the reference computes: at every query and coordinate the normalised differential attention over the keys the
  query sees.
-/
module

public import proofs.«01_k».proof.Proof.AttnMath
public import proofs.«01_k».proof.Proof.Gen.ReferenceIdeal.Read
public import Idealize.ShloMosaic.Lib.Pointwise

@[expose] public section

set_option maxRecDepth 16384

noncomputable section

namespace Layer.Attn.Whole

open Idealize.ShloMosaic Cert.ReferenceIdeal Cert.ReferenceIdeal.Gen Cert.ReferenceIdeal.Read

variable (x0 : FVec Ideal S8x17x512x256 .bf16) (x1 : FVec Ideal S8x4352x512 .bf16) (x2 : FVec Ideal S8x17x512x256 .bf16)
  (x3 x4 : FVec Ideal S2x64 .f32) (x5 : FVec Ideal S1x128 .f32)

/-- The word of −∞ reads as the least extended real. -/
theorem word_bot : FloatOps.ofBits (F := Ideal) .f32 0xFF800000#32 = (⊥ : EReal) := by
  simp [Ideal.ofBits, Ideal.ieee]

/-! The row maxima, each with its guard against an empty row. -/

/-- The largest score of a row in the first map, for the latents. -/
theorem v36_apply (b : Fin 8) (h : Fin 4) (s : Fin 4096) : val_main_v36 (F := Ideal) x0 x1 (ix3 b h s)
    = Finset.univ.fold max (⊥ : EReal) (fun j => val_main_v34 (F := Ideal) x0 x1 (ix4 b h s j)) := by
  pointwise [val_main_v36, val_main_cst_2]
  rw [← word_bot]; rfl

/-- The largest score of a row in the second map, for the latents. -/
theorem v47_apply (b : Fin 8) (h : Fin 4) (s : Fin 4096) : val_main_v47 (F := Ideal) x0 x1 (ix3 b h s)
    = Finset.univ.fold max (⊥ : EReal) (fun j => val_main_v35 (F := Ideal) x0 x1 (ix4 b h s j)) := by
  pointwise [val_main_v47, val_main_cst_5]
  rw [← word_bot]; rfl

/-- The largest score of a row in the first map, for the context. -/
theorem v69_apply (b : Fin 8) (h : Fin 4) (s : Fin 256) : val_main_v69 (F := Ideal) x0 x1 (ix3 b h s)
    = Finset.univ.fold max (⊥ : EReal) (fun j => val_main_v67 (F := Ideal) x0 x1 (ix4 b h s j)) := by
  pointwise [val_main_v69, val_main_cst_8]
  rw [← word_bot]; rfl

/-- The largest score of a row in the second map, for the context. -/
theorem v80_apply (b : Fin 8) (h : Fin 4) (s : Fin 256) : val_main_v80 (F := Ideal) x0 x1 (ix3 b h s)
    = Finset.univ.fold max (⊥ : EReal) (fun j => val_main_v68 (F := Ideal) x0 x1 (ix4 b h s j)) := by
  pointwise [val_main_v80, val_main_cst_11]
  rw [← word_bot]; rfl

/-- The same, compared with −∞, in the first map, for the latents. -/
theorem v38_apply (b : Fin 8) (h : Fin 4) (s : Fin 4096) : val_main_v38 (F := Ideal) x0 x1 (ix3 b h s)
    = max (⊥ : EReal) (Finset.univ.fold max ⊥ (fun j => val_main_v34 (F := Ideal) x0 x1 (ix4 b h s j))) := by
  rw [val_main_v38_apply, val_main_v37_apply, val_main_cst_3_apply, v36_apply, word_bot]; rfl

/-- The same, compared with −∞, in the second map, for the latents. -/
theorem v49_apply (b : Fin 8) (h : Fin 4) (s : Fin 4096) : val_main_v49 (F := Ideal) x0 x1 (ix3 b h s)
    = max (⊥ : EReal) (Finset.univ.fold max ⊥ (fun j => val_main_v35 (F := Ideal) x0 x1 (ix4 b h s j))) := by
  rw [val_main_v49_apply, val_main_v48_apply, val_main_cst_6_apply, v47_apply, word_bot]; rfl

/-- The same, compared with −∞, in the first map, for the context. -/
theorem v71_apply (b : Fin 8) (h : Fin 4) (s : Fin 256) : val_main_v71 (F := Ideal) x0 x1 (ix3 b h s)
    = max (⊥ : EReal) (Finset.univ.fold max ⊥ (fun j => val_main_v67 (F := Ideal) x0 x1 (ix4 b h s j))) := by
  rw [val_main_v71_apply, val_main_v70_apply, val_main_cst_9_apply, v69_apply, word_bot]; rfl

/-- The same, compared with −∞, in the second map, for the context. -/
theorem v82_apply (b : Fin 8) (h : Fin 4) (s : Fin 256) : val_main_v82 (F := Ideal) x0 x1 (ix3 b h s)
    = max (⊥ : EReal) (Finset.univ.fold max ⊥ (fun j => val_main_v68 (F := Ideal) x0 x1 (ix4 b h s j))) := by
  rw [val_main_v82_apply, val_main_v81_apply, val_main_cst_12_apply, v80_apply, word_bot]; rfl

/-! The four softmaxes. -/

/-- The exponential of a score less the row's largest, in the first map, for the latents. -/
theorem v42_apply (b : Fin 8) (h : Fin 4) (s : Fin 4096) (j : Fin 4352) : val_main_v42 (F := Ideal) x0 x1 (ix4 b h s j)
    = Ideal.exp (val_main_v34 (F := Ideal) x0 x1 (ix4 b h s j) - val_main_v38 (F := Ideal) x0 x1 (ix3 b h s)) := by
  pointwise [val_main_v42, val_main_v41, val_main_v40, val_main_v39]

/-- The exponential of a score less the row's largest, in the second map, for the latents. -/
theorem v53_apply (b : Fin 8) (h : Fin 4) (s : Fin 4096) (j : Fin 4352) : val_main_v53 (F := Ideal) x0 x1 (ix4 b h s j)
    = Ideal.exp (val_main_v35 (F := Ideal) x0 x1 (ix4 b h s j) - val_main_v49 (F := Ideal) x0 x1 (ix3 b h s)) := by
  pointwise [val_main_v53, val_main_v52, val_main_v51, val_main_v50]

/-- The exponential of a score less the row's largest, in the first map, for the context. -/
theorem v75_apply (b : Fin 8) (h : Fin 4) (s j : Fin 256) : val_main_v75 (F := Ideal) x0 x1 (ix4 b h s j)
    = Ideal.exp (val_main_v67 (F := Ideal) x0 x1 (ix4 b h s j) - val_main_v71 (F := Ideal) x0 x1 (ix3 b h s)) := by
  pointwise [val_main_v75, val_main_v74, val_main_v73, val_main_v72]

/-- The exponential of a score less the row's largest, in the second map, for the context. -/
theorem v86_apply (b : Fin 8) (h : Fin 4) (s j : Fin 256) : val_main_v86 (F := Ideal) x0 x1 (ix4 b h s j)
    = Ideal.exp (val_main_v68 (F := Ideal) x0 x1 (ix4 b h s j) - val_main_v82 (F := Ideal) x0 x1 (ix3 b h s)) := by
  pointwise [val_main_v86, val_main_v85, val_main_v84, val_main_v83]

/-- The weight of a key in the first map, for the latents. -/
theorem v46_apply (b : Fin 8) (h : Fin 4) (s : Fin 4096) (j : Fin 4352) : val_main_v46 (F := Ideal) x0 x1 (ix4 b h s j)
    = weight (fun j => val_main_v34 (F := Ideal) x0 x1 (ix4 b h s j)) j := by
  pointwise [val_main_v46, val_main_v45, val_main_v44, val_main_v43, val_main_cst_4]
  simp only [v42_apply, v38_apply, weight]

/-- The weight of a key in the second map, for the latents. -/
theorem v57_apply (b : Fin 8) (h : Fin 4) (s : Fin 4096) (j : Fin 4352) : val_main_v57 (F := Ideal) x0 x1 (ix4 b h s j)
    = weight (fun j => val_main_v35 (F := Ideal) x0 x1 (ix4 b h s j)) j := by
  pointwise [val_main_v57, val_main_v56, val_main_v55, val_main_v54, val_main_cst_7]
  simp only [v53_apply, v49_apply, weight]

/-- The weight of a key in the first map, for the context. -/
theorem v79_apply (b : Fin 8) (h : Fin 4) (s j : Fin 256) : val_main_v79 (F := Ideal) x0 x1 (ix4 b h s j)
    = weight (fun j => val_main_v67 (F := Ideal) x0 x1 (ix4 b h s j)) j := by
  pointwise [val_main_v79, val_main_v78, val_main_v77, val_main_v76, val_main_cst_10]
  simp only [v75_apply, v71_apply, weight]

/-- The weight of a key in the second map, for the context. -/
theorem v90_apply (b : Fin 8) (h : Fin 4) (s j : Fin 256) : val_main_v90 (F := Ideal) x0 x1 (ix4 b h s j)
    = weight (fun j => val_main_v68 (F := Ideal) x0 x1 (ix4 b h s j)) j := by
  pointwise [val_main_v90, val_main_v89, val_main_v88, val_main_v87, val_main_cst_13]
  simp only [v86_apply, v82_apply, weight]

/-- The weight of the second map. -/
theorem v25_apply : val_main_v25 (F := Ideal) x3 x4 ix0 = lamE (fun a k => x3 (ix2 a k)) (fun a k => x4 (ix2 a k)) := by
  pointwise [val_main_v25, val_main_v24, val_main_cst_1, val_main_v23, val_main_v22, val_main_cst_0, val_main_v21, val_main_v20,
    val_main_v19, val_main_v18, val_main_v17, val_main_v16, val_main_v15, val_main_cst, val_main_v14, val_main_v13, val_main_v12,
    val_main_v11, val_main_v10, lamE]

/-! The arrays as real numbers, by head. -/

variable (X0 : ℕ → ℕ → ℕ → ℕ → ℝ) (X1 : ℕ → ℕ → ℕ → ℝ) (X2 : ℕ → ℕ → ℕ → ℕ → ℝ) (lam : ℝ)

/-- The queries of tile `i` of head `h`: coordinate, then row of the tile. -/
def Qof (b h i : ℕ) : ℕ → ℕ → ℝ := fun k r => X0 b i (h * 128 + k) r

/-- The keys of head `h`: position, then coordinate. -/
def Kof (b h : ℕ) : ℕ → ℕ → ℝ := fun j k => X1 b j (h * 128 + k)

/-- The values of head `h`: coordinate, then position. -/
def Vof (b h : ℕ) : ℕ → ℕ → ℝ := fun d j => X2 b (j / 256) (h * 128 + d) (j % 256)

/-- One head's output at row `r` of tile `i`. -/
def att (b h i r d : ℕ) : ℝ :=
  diff (score (Kof X1 b h) (Qof X0 b h i) 0 r) (score (Kof X1 b h) (Qof X0 b h i) 64 r) (Vof X2 b h d) lam (keys i)

section

variable (h0 : ∀ (b : Fin 8) (i : Fin 17) (k : Fin 512) (r : Fin 256), x0 (ix4 b i k r) = (X0 b i k r : EReal))
  (h1 : ∀ (b : Fin 8) (j : Fin 4352) (k : Fin 512), x1 (ix3 b j k) = (X1 b j k : EReal))
  (h2 : ∀ (b : Fin 8) (i : Fin 17) (k : Fin 512) (r : Fin 256), x2 (ix4 b i k r) = (X2 b i k r : EReal))
  (hlam : lamE (fun a k => x3 (ix2 a k)) (fun a k => x4 (ix2 a k)) = (lam : EReal))

include h0 h1 in
/-- The scores of the first map, for the latents. -/
theorem v34_apply (b : Fin 8) (h : Fin 4) (s : Fin 4096) (j : Fin 4352) : val_main_v34 (F := Ideal) x0 x1 (ix4 b h s j)
    = (score (Kof X1 b h) (Qof X0 b h ((256 + s) / 256)) 0 ((256 + s) % 256) j : EReal) := by
  pointwise [val_main_v34, val_main_v30, val_main_v26, val_main_v3, val_main_v2, val_main_v1, val_main_v0, val_main_v32,
    val_main_v5, val_main_v4]
  rw [sum_mul_real _ _ (fun k => h0 _ _ _ _) (fun k => h1 _ _ _)]
  unfold score Kof Qof
  congr 1
  refine Finset.sum_congr rfl fun k _ => ?_
  rw [mul_comm]
  simp only [show h.val * 128 + (0 + k.val) = 2 * h.val * 64 + k.val by omega]

include h0 h1 in
/-- The scores of the second map, for the latents. -/
theorem v35_apply (b : Fin 8) (h : Fin 4) (s : Fin 4096) (j : Fin 4352) : val_main_v35 (F := Ideal) x0 x1 (ix4 b h s j)
    = (score (Kof X1 b h) (Qof X0 b h ((256 + s) / 256)) 64 ((256 + s) % 256) j : EReal) := by
  pointwise [val_main_v35, val_main_v31, val_main_v26, val_main_v3, val_main_v2, val_main_v1, val_main_v0, val_main_v33,
    val_main_v5, val_main_v4]
  rw [sum_mul_real _ _ (fun k => h0 _ _ _ _) (fun k => h1 _ _ _)]
  unfold score Kof Qof
  congr 1
  refine Finset.sum_congr rfl fun k _ => ?_
  rw [mul_comm]
  simp only [show h.val * 128 + (64 + k.val) = (1 + 2 * h.val) * 64 + k.val by omega]

include h0 h1 in
/-- The scores of the first map, for the context. -/
theorem v67_apply (b : Fin 8) (h : Fin 4) (s j : Fin 256) : val_main_v67 (F := Ideal) x0 x1 (ix4 b h s j)
    = (score (Kof X1 b h) (Qof X0 b h 0) 0 s j : EReal) := by
  pointwise [val_main_v67, val_main_v63, val_main_v27, val_main_v3, val_main_v2, val_main_v1, val_main_v0, val_main_v65,
    val_main_v28, val_main_v5, val_main_v4]
  rw [sum_mul_real _ _ (fun k => h0 _ _ _ _) (fun k => h1 _ _ _)]
  unfold score Kof Qof
  congr 1
  refine Finset.sum_congr rfl fun k _ => ?_
  rw [mul_comm]
  simp only [show h.val * 128 + (0 + k.val) = 2 * h.val * 64 + k.val by omega, Nat.div_eq_of_lt s.isLt, Nat.mod_eq_of_lt s.isLt]

include h0 h1 in
/-- The scores of the second map, for the context. -/
theorem v68_apply (b : Fin 8) (h : Fin 4) (s j : Fin 256) : val_main_v68 (F := Ideal) x0 x1 (ix4 b h s j)
    = (score (Kof X1 b h) (Qof X0 b h 0) 64 s j : EReal) := by
  pointwise [val_main_v68, val_main_v64, val_main_v27, val_main_v3, val_main_v2, val_main_v1, val_main_v0, val_main_v66,
    val_main_v28, val_main_v5, val_main_v4]
  rw [sum_mul_real _ _ (fun k => h0 _ _ _ _) (fun k => h1 _ _ _)]
  unfold score Kof Qof
  congr 1
  refine Finset.sum_congr rfl fun k _ => ?_
  rw [mul_comm]
  simp only [show h.val * 128 + (64 + k.val) = (1 + 2 * h.val) * 64 + k.val by omega, Nat.div_eq_of_lt s.isLt,
    Nat.mod_eq_of_lt s.isLt]

include h2 in
/-- The values in token order. -/
theorem v9_apply (b : Fin 8) (j : Fin 4352) (h : Fin 4) (d : Fin 128) : val_main_v9 (F := Ideal) x2 (ix4 b j h d)
    = (Vof X2 b h d j : EReal) := by
  pointwise [val_main_v9, val_main_v8, val_main_v7, val_main_v6]
  exact h2 _ _ _ _

include h2 in
/-- The context's values. -/
theorem v29_apply (b : Fin 8) (j : Fin 256) (h : Fin 4) (d : Fin 128) : val_main_v29 (F := Ideal) x2 (ix4 b j h d)
    = (Vof X2 b h d j : EReal) := by
  refine Eq.trans ?_ (v9_apply x2 X2 h2 b ⟨j, by omega⟩ h d)
  pointwise [val_main_v29]

include h0 h1 h2 hlam in
/-- The latents' attention: every latent sees all 4352 keys. -/
theorem v62_apply (b : Fin 8) (s : Fin 4096) (h : Fin 4) (d : Fin 128) :
    val_main_v62 (F := Ideal) x0 x1 x2 x3 x4 (ix4 b s h d)
      = (att X0 X1 X2 lam b h ((256 + s) / 256) ((256 + s) % 256) d : EReal) := by
  pointwise [val_main_v62, val_main_v61, val_main_v60, val_main_v59, val_main_v58]
  simp only [v46_apply, v57_apply, v25_apply]
  unfold att
  rw [show keys ((256 + s.val) / 256) = 4352 from if_neg (by omega)]
  exact attend (by decide) _ _ _ lam (v34_apply x0 x1 X0 X1 h0 h1 b h s) (v35_apply x0 x1 X0 X1 h0 h1 b h s)
    (fun j => v9_apply x2 X2 h2 b j h d) hlam

include h0 h1 h2 hlam in
/-- The context's attention: every context token sees the 256 context keys. -/
theorem v95_apply (b : Fin 8) (s : Fin 256) (h : Fin 4) (d : Fin 128) :
    val_main_v95 (F := Ideal) x0 x1 x2 x3 x4 (ix4 b s h d) = (att X0 X1 X2 lam b h 0 s d : EReal) := by
  pointwise [val_main_v95, val_main_v94, val_main_v93, val_main_v92, val_main_v91]
  simp only [v79_apply, v90_apply, v25_apply]
  unfold att
  exact attend (n := 256) (by decide) _ _ _ lam (v67_apply x0 x1 X0 X1 h0 h1 b h s) (v68_apply x0 x1 X0 X1 h0 h1 b h s)
    (fun j => v29_apply x2 X2 h2 b j h d) hlam

/-- The context's headwise norm. -/
theorem v111_apply (b : Fin 8) (s : Fin 256) (h : Fin 4) (d : Fin 128) :
    val_main_v111 (F := Ideal) x0 x1 x2 x3 x4 x5 (ix4 b s h d)
      = head (fun e => val_main_v95 (F := Ideal) x0 x1 x2 x3 x4 (ix4 b s h e)) (fun e => x5 (ix2 0 e)) d := by
  pointwise [val_main_v111, val_main_v110, val_main_cst_17, val_main_v109, val_main_v108, val_main_v107, val_main_v106,
    val_main_v105, val_main_v104, val_main_v103, val_main_v102, val_main_cst_16, val_main_v101, val_main_v100, val_main_cst_15,
    val_main_v99, val_main_v98, val_main_cst_14, val_main_v97, val_main_v96, head]

/-- The latents' headwise norm. -/
theorem v128_apply (b : Fin 8) (s : Fin 4096) (h : Fin 4) (d : Fin 128) :
    val_main_v128 (F := Ideal) x0 x1 x2 x3 x4 x5 (ix4 b s h d)
      = head (fun e => val_main_v62 (F := Ideal) x0 x1 x2 x3 x4 (ix4 b s h e)) (fun e => x5 (ix2 0 e)) d := by
  pointwise [val_main_v128, val_main_v127, val_main_cst_21, val_main_v126, val_main_v125, val_main_v124, val_main_v123,
    val_main_v122, val_main_v121, val_main_v120, val_main_v119, val_main_cst_20, val_main_v118, val_main_v117, val_main_cst_19,
    val_main_v116, val_main_v115, val_main_cst_18, val_main_v114, val_main_v113, head]

/-- The context's heads side by side. -/
theorem v112_apply (b : Fin 8) (s : Fin 256) (h : Fin 4) (d : Fin 128) :
    val_main_v112 (F := Ideal) x0 x1 x2 x3 x4 x5 (ix3 b s ⟨h * 128 + d, by omega⟩)
      = val_main_v111 (F := Ideal) x0 x1 x2 x3 x4 x5 (ix4 b s h d) := by
  pointwise [val_main_v112]

/-- The latents' heads side by side. -/
theorem v129_apply (b : Fin 8) (s : Fin 4096) (h : Fin 4) (d : Fin 128) :
    val_main_v129 (F := Ideal) x0 x1 x2 x3 x4 x5 (ix3 b s ⟨h * 128 + d, by omega⟩)
      = val_main_v128 (F := Ideal) x0 x1 x2 x3 x4 x5 (ix4 b s h d) := by
  pointwise [val_main_v129]

include h0 h1 h2 hlam in
/-- The reference's result: row `r` of tile `i`, coordinate `d` of head `h`. -/
theorem v131_apply (b : Fin 8) (i : Fin 17) (r : Fin 256) (h : Fin 4) (d : Fin 128) :
    val_main_v131 (F := Ideal) x0 x1 x2 x3 x4 x5 (ix3 b ⟨i * 256 + r, by omega⟩ ⟨h * 128 + d, by omega⟩)
      = head (fun e => (att X0 X1 X2 lam b h i r e : EReal)) (fun e => x5 (ix2 0 e)) d := by
  have hr := r.isLt
  pointwise [val_main_v131, val_main_v130]
  by_cases hi : i.val = 0
  · refine (dif_pos (by omega)).trans ?_
    rw [v112_apply, v111_apply]
    simp only [v95_apply x0 x1 x2 x3 x4 X0 X1 X2 lam h0 h1 h2 hlam, hi, Nat.zero_mul, Nat.zero_add]
  · refine (dif_neg (by omega)).trans ?_
    rw [v129_apply, v128_apply]
    simp only [v62_apply x0 x1 x2 x3 x4 X0 X1 X2 lam h0 h1 h2 hlam]
    rw [show (256 + (i.val * 256 + r.val - 256)) / 256 = i.val by omega,
      show (256 + (i.val * 256 + r.val - 256)) % 256 = r.val by omega]

end

end Layer.Attn.Whole

end
-- ==== Proof.AttnFinite.lean ====
/-
  What the precondition says: every entry of the queries, keys, values and scalars is a real number.
-/
module

public import proofs.«01_k».proof.Proof.AttnMath
public import proofs.«01_k».proof.Proof.Gen.Pre_all_finite
public import Idealize.ShloMosaic.Lib.ReduceAll
public import Idealize.ShloMosaic.Lib.WordArith

@[expose] public section

set_option maxRecDepth 16384

noncomputable section

namespace Layer.Attn.Finite

open Idealize.ShloMosaic Cert.Pre_all_finite

/-- An extended real whose absolute value lies under the word of +∞ is real. -/
theorem real_of_lt {x : EReal} (h : Ideal.cmp .olt (FloatOps.hostAbsf (F := Ideal) (φ := .f32) x) (Ideal.ofBits .f32 0x7F800000#32) = 1#1) :
    x = (x.toReal : EReal) := by
  have hlt : FloatOps.hostAbsf (F := Ideal) (φ := .f32) x < Ideal.ofBits .f32 0x7F800000#32 := of_decide_eq_true ((WordArith.ofBool_eq_one_iff _).1 h)
  have ht : Ideal.ofBits .f32 0x7F800000#32 = (⊤ : EReal) := by simp [Ideal.ofBits, Ideal.ieee]
  rw [ht] at hlt
  induction x with
  | coe x => rfl
  | bot => exact absurd hlt (lt_irrefl _)
  | top => exact absurd hlt (lt_irrefl _)

/-- The precondition gives real entries of the first five arrays. -/
theorem all_real (x0 : FVec Ideal S8x17x512x256 .bf16) (x1 : FVec Ideal S8x4352x512 .bf16) (x2 : FVec Ideal S8x17x512x256 .bf16)
    (x3 x4 : FVec Ideal S2x64 .f32) (x5 : FVec Ideal S1x128 .f32) (i : S_.Idx) (h : fn (F := Ideal) x0 x1 x2 x3 x4 x5 i = 1#1) :
    (∀ j, x0 j = ((x0 j).toReal : EReal)) ∧ (∀ j, x1 j = ((x1 j).toReal : EReal)) ∧ (∀ j, x2 j = ((x2 j).toReal : EReal))
      ∧ (∀ j, x3 j = ((x3 j).toReal : EReal)) ∧ (∀ j, x4 j = ((x4 j).toReal : EReal)) := by
  haveI : Subsingleton S_.Idx := ⟨fun a b => funext fun k => k.elim0⟩
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun j => real_of_lt (Host.reduce_andi_all _ _ _ _ _ h0 j), fun j => real_of_lt (Host.reduce_andi_all _ _ _ _ _ h1 j),
    fun j => real_of_lt (Host.reduce_andi_all _ _ _ _ _ h2 j), fun j => real_of_lt (Host.reduce_andi_all _ _ _ _ _ h3 j),
    fun j => real_of_lt (Host.reduce_andi_all _ _ _ _ _ h4 j)⟩

/-- With real scalars the second map's weight is real. -/
theorem lam_real {a b : Fin 2 → Fin 64 → EReal} (ha : ∀ i k, a i k = ((a i k).toReal : EReal))
    (hb : ∀ i k, b i k = ((b i k).toReal : EReal)) : ∃ lam : ℝ, lamE a b = (lam : EReal) := by
  obtain ⟨r, hr⟩ : ∃ r : ℝ, Ideal.ofBits .f32 0x3E4CCCCD#32 = (r : EReal) := by
    simp only [Ideal.ofBits, Ideal.ieee]
    exact ⟨_, by norm_num; rfl⟩
  unfold lamE
  rw [sum_mul_real _ _ (ha 0) (hb 0), sum_mul_real _ _ (ha 1) (hb 1), hr, Ideal.exp_coe, Ideal.exp_coe, ← EReal.coe_sub,
    ← EReal.coe_add]
  exact ⟨_, rfl⟩

end Layer.Attn.Finite

end
-- ==== Proof.AttnValue.lean ====
/-
  The kernel's result array after its run: the reference's term of the same arguments.
-/
module

public import proofs.«01_k».proof.Proof.AttnOut
public import proofs.«01_k».proof.Proof.AttnRef
public import proofs.«01_k».proof.Proof.AttnFinite
public import Idealize.ShloMosaic.Lib.Pipeline.ValueKit
public import Idealize.ShloMosaic.Lib.Pipeline.Covers

@[expose] public section

set_option maxRecDepth 16384

noncomputable section

namespace Layer.Attn.Value

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Where each window's block lies at grid point `t = 68 b + 17 h + i`, and that point's tile `i`. -/
theorem idx : ∀ t : Fin cfg0.N,
    win0_0.index t = ![t.val / 68, t.val % 17, t.val / 17 % 4, 0] ∧ win0_1.index t = ![t.val / 68, 0, t.val / 17 % 4]
    ∧ win0_2.index t = ![t.val / 68, 0, t.val / 17 % 4, 0] ∧ win0_3.index t = ![0, 0] ∧ win0_4.index t = ![0, 0]
    ∧ win0_5.index t = ![0, 0] ∧ win0_6.index t = ![t.val / 68, t.val % 17, t.val / 17 % 4]
    ∧ (grid0.coords t 2).val = t.val % 17 :=
  (by decide +kernel : ∀ t : Fin grid0.N,
    win0_0.index t = ![t.val / 68, t.val % 17, t.val / 17 % 4, 0] ∧ win0_1.index t = ![t.val / 68, 0, t.val / 17 % 4]
    ∧ win0_2.index t = ![t.val / 68, 0, t.val / 17 % 4, 0] ∧ win0_3.index t = ![0, 0] ∧ win0_4.index t = ![0, 0]
    ∧ win0_5.index t = ![0, 0] ∧ win0_6.index t = ![t.val / 68, t.val % 17, t.val / 17 % 4]
    ∧ (grid0.coords t 2).val = t.val % 17)

/-- Every block of the result is some point's. -/
theorem covers : (cfg0.win 6).Covers :=
  (cfg0.win 6).covers_of_indexMap_surj rfl (by decide) (by decide +kernel)

/-- The reference's term of device `c`'s arguments. -/
abbrev result : FVec Ideal Cert.ReferenceIdeal.S8x4352x512 .bf16 :=
  Cert.ReferenceIdeal.Read.val_main_v131 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The arrays' entries as real numbers at natural indices. -/
abbrev X0 (b i k r : ℕ) : ℝ := (m ((c : Thread nD τ).loc main_arg0) (ix4 (Fin.ofNat 8 b) (Fin.ofNat 17 i) (Fin.ofNat 512 k) (Fin.ofNat 256 r)) : EReal).toReal

/-- The keys' entries. -/
abbrev X1 (b j k : ℕ) : ℝ := (m ((c : Thread nD τ).loc main_arg1) (ix3 (Fin.ofNat 8 b) (Fin.ofNat 4352 j) (Fin.ofNat 512 k)) : EReal).toReal

/-- The values' entries. -/
abbrev X2 (b i k r : ℕ) : ℝ := (m ((c : Thread nD τ).loc main_arg2) (ix4 (Fin.ofNat 8 b) (Fin.ofNat 17 i) (Fin.ofNat 512 k) (Fin.ofNat 256 r)) : EReal).toReal

/-- The result array after the run, on real queries, keys, values and scalars. -/
theorem final (h : Cert.Pre_all_finite.fn (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = fun _ => 1#1) :
    (dats m 0 c).arrAt 6 cfg0.N = result m c := by
  obtain ⟨h0, h1, h2, h3, h4⟩ := Finite.all_real _ _ _ _ _ _ ix0 (congrFun h ix0)
  obtain ⟨lam, hlam⟩ := Finite.lam_real (a := fun a k => m ((c : Thread nD τ).loc main_arg3) (ix2 a k))
    (b := fun a k => m ((c : Thread nD τ).loc main_arg4) (ix2 a k)) (fun _ _ => h3 _) (fun _ _ => h4 _)
  have e0 : ∀ (b : Fin 8) (i : Fin 17) (k : Fin 512) (r : Fin 256),
      m ((c : Thread nD τ).loc main_arg0) (ix4 b i k r) = (X0 m c b i k r : EReal) := fun b i k r => by
    unfold X0; rw [Fin.ofNat_val_eq_self, Fin.ofNat_val_eq_self, Fin.ofNat_val_eq_self, Fin.ofNat_val_eq_self]; exact h0 _
  have e1 : ∀ (b : Fin 8) (j : Fin 4352) (k : Fin 512),
      m ((c : Thread nD τ).loc main_arg1) (ix3 b j k) = (X1 m c b j k : EReal) := fun b j k => by
    unfold X1; rw [Fin.ofNat_val_eq_self, Fin.ofNat_val_eq_self, Fin.ofNat_val_eq_self]; exact h1 _
  have e2 : ∀ (b : Fin 8) (i : Fin 17) (k : Fin 512) (r : Fin 256),
      m ((c : Thread nD τ).loc main_arg2) (ix4 b i k r) = (X2 m c b i k r : EReal) := fun b i k r => by
    unfold X2; rw [Fin.ofNat_val_eq_self, Fin.ofNat_val_eq_self, Fin.ofNat_val_eq_self, Fin.ofNat_val_eq_self]; exact h2 _
  refine (dats m 0 c).arrAt_eq_of_covers 6 _ covers fun t hf y => ?_
  have hN : t.val < 544 := t.isLt
  blk_simp
  rw [after0_6]
  obtain ⟨r, d, rfl⟩ : ∃ (r : Fin 256) (d : Fin 128), y = ix3 (0 : Fin 1) r d := by
    refine ⟨y 1, y 2, ?_⟩
    idx_ext
  have hr := r.isLt
  have hd := d.isLt
  have hb : t.val / 68 < 8 := by omega
  have hh : t.val / 17 % 4 < 4 := by omega
  have hi : t.val % 17 < 17 := by omega
  rw [show ((View.whole main_v0).slice (win0_6.rect t)).emb (ix3 0 r d)
      = ix3 (⟨t.val / 68, hb⟩ : Fin 8) (⟨t.val % 17 * 256 + r.val, by omega⟩ : Fin 4352) (⟨t.val / 17 % 4 * 128 + d.val, by omega⟩ : Fin 512) by
    blk_ext [idx t]]
  refine (Out.stored m c t (Whole.Kof (X1 m c) (t.val / 68) (t.val / 17 % 4)) (Whole.Qof (X0 m c) (t.val / 68) (t.val / 17 % 4) (t.val % 17))
    (Whole.Vof (X2 m c) (t.val / 68) (t.val / 17 % 4)) (fun k r => ?_) (fun j k => ?_) (fun a d r => ?_) lam ?_ r d).trans ?_
  · refine Eq.trans ?_ (e0 ⟨_, hb⟩ ⟨_, hi⟩ ⟨t.val / 17 % 4 * 128 + k.val, by omega⟩ r)
    blk_ext [iblk, V, idx t]
  · refine Eq.trans ?_ (e1 ⟨_, hb⟩ j ⟨t.val / 17 % 4 * 128 + k.val, by omega⟩)
    blk_ext [iblk, V, idx t]
  · have hr' := r.isLt
    unfold Whole.Vof
    rw [show (a.val * 256 + r.val) / 256 = a.val by omega, show (a.val * 256 + r.val) % 256 = r.val by omega]
    refine Eq.trans ?_ (e2 ⟨_, hb⟩ a ⟨t.val / 17 % 4 * 128 + d.val, by omega⟩ r)
    blk_ext [iblk, V, idx t]
  · refine Eq.trans ?_ hlam
    congr 1 <;> funext a k <;> blk_ext [iblk, V, idx t]
  · refine Eq.trans ?_ (Whole.v131_apply _ _ _ _ _ _ (X0 m c) (X1 m c) (X2 m c) lam e0 e1 e2 hlam ⟨_, hb⟩ ⟨_, hi⟩ r ⟨_, hh⟩ d).symm
    rw [(idx t).2.2.2.2.2.2.2]
    congr 1
    funext e
    blk_ext [iblk, V, idx t]

end Layer.Attn.Value

end
-- ==== Proof.InprojSpec.lean ====
/-
  What the input projection computes for ONE token, over the extended reals: an rms norm with shift and scale, the
  product with the weights, the rotation of a query's or a key's pairs of coordinates, and the spatial gate, which mixes
  the 128 tokens of a chunk.
-/
module

public import proofs.«01_k».proof.Proof.FfnSpec
public import proofs.«01_k».proof.Proof.AttnMath

@[expose] public section

noncomputable section

namespace Layer.Inproj

open Idealize.ShloMosaic

/-- One token's own data: its row of the stream and its batch's shift and scale. -/
structure Token where
  x : Fin 1024 → EReal
  shift : Fin 1024 → EReal
  scale : Fin 1024 → EReal

/-- What all tokens share: the norm's gain and the weights. -/
structure Weights where
  g : Fin 1024 → EReal
  w : Fin 1024 → Fin 2560 → EReal

/-- The normed stream, scaled and shifted. -/
def hidden (t : Token) (w : Weights) (k : Fin 1024) : EReal :=
  t.x k * Ffn.rms t.x * w.g k * (1 + t.scale k) + t.shift k

/-- The projected row: 512 columns of queries, of keys and of values, then four of 256 columns for the recurrence's
    input and gate and for the spatial mixer's two halves. -/
def proj (t : Token) (w : Weights) (n : Fin 2560) : EReal := ∑ k, hidden t w k * w.w k n

/-- The Gaussian error unit by its `tanh` formula. -/
def gelu (x : EReal) : EReal :=
  x * (Ideal.ofBits .f32 0x3F000000#32
    * (1 + Ideal.tanh (Ideal.ofBits .f32 0x3F4C422A#32 * (x + Ideal.ofBits .f32 0x3D372713#32 * (x * x * x)))))

/-- The column that is rotated together with column `n`: 16 further on or 16 back. -/
def partner (n : Fin 2560) : Fin 2560 := ⟨if n.val % 32 < 16 then n.val + 16 else n.val - 16, by split <;> omega⟩

/-- The rotation at column `n`, with the cosines and the signed sines of two heads' columns. -/
def rope (p : Fin 2560 → EReal) (c s : Fin 128 → EReal) (n : Fin 2560) : EReal :=
  p n * c ⟨n.val % 128, by omega⟩ + p (partner n) * s ⟨n.val % 128, by omega⟩

/-- Column `e` of the 64 columns among which column `l` lies. -/
def mate (l : Fin 256) (e : Fin 64) : Fin 256 := ⟨64 * (l.val / 64) + e.val, by omega⟩

/-- The norm over a column's group of 64, with its gain. -/
def unit (v g : Fin 256 → EReal) (l : Fin 256) : EReal :=
  v l * Ideal.rsqrt (Ideal.div (∑ e, v (mate l e) * v (mate l e)) (Ideal.ofBits .f32 0x42800000#32)
    + Ideal.ofBits .f32 0x358637BD#32) * g l

/-- One entry of the spatial gate: the chunk's column `v` mixed with the weights `w`, biased, times `u`. -/
def mixed (u : EReal) (v w : Fin 128 → EReal) (b : EReal) : EReal := u * (∑ q, v q * w q + b)

/-- The mixer's second half of a projected row, before its norm. -/
def half (p : Fin 2560 → EReal) (l : Fin 256) : EReal := gelu (p ⟨2304 + l.val, by omega⟩)

/-- A sum whose terms vanish outside one of the blocks of `n` is the sum over that block. -/
theorem sum_block {N n : ℕ} (f : Fin N → EReal) (o : ℕ) (h : o + n ≤ N)
    (hf : ∀ x : Fin N, ¬ (o ≤ x.val ∧ x.val < o + n) → f x = 0) :
    ∑ x, f x = ∑ q : Fin n, f ⟨o + q.val, by omega⟩ := by
  refine (Fintype.sum_of_injective (fun q : Fin n => (⟨o + q.val, by omega⟩ : Fin N)) ?_ _ _ ?_ fun _ => rfl).symm
  · intro a b hab
    have := congrArg Fin.val hab
    exact Fin.ext (by simpa using this)
  · intro x hx
    refine hf x fun ⟨h1, h2⟩ => hx ⟨⟨x.val - o, by omega⟩, Fin.ext ?_⟩
    show o + (x.val - o) = x.val
    omega

/-! The gate's values are real where the projection's weights, the gain, the shift and the scale are: a stream of any
    size has a normed row of reals. -/

/-- The square of an extended real is not negative. -/
theorem sq_nonneg' (x : EReal) : 0 ≤ x * x := by
  induction x with
  | bot => simp
  | top => simp
  | coe x => rw [← EReal.coe_mul]; exact_mod_cast mul_self_nonneg x

/-- The word of 1024. -/
theorem word_1024 : Ideal.ofBits .f32 0x44800000#32 = ((1024 : ℝ) : EReal) := by
  simp [Ideal.ofBits, Ideal.ieee]
  norm_num [← EReal.coe_mul]

/-- The word of the norm's small constant reads as a positive real number. -/
theorem word_eps : ∃ e : ℝ, 0 < e ∧ Ideal.ofBits .f32 0x358637BD#32 = (e : EReal) := by
  refine ⟨8796093 * 2 ^ (-43 : ℤ), by norm_num, ?_⟩
  simp [Ideal.ofBits, Ideal.ieee]

/-- The normed row of any stream is real. -/
theorem normed_real (x : Fin 1024 → EReal) (k : Fin 1024) : ∃ r : ℝ, x k * Ffn.rms x = (r : EReal) := by
  obtain ⟨e, he, hw⟩ := word_eps
  unfold Ffn.rms
  rw [word_1024, hw, Ideal.div_coe (by norm_num)]
  by_cases h : ∃ j, x j = ⊤ ∨ x j = ⊥
  · obtain ⟨j, hj⟩ := h
    have hs : ∑ k, x k * x k = ⊤ := by
      refine top_le_iff.1 (le_trans (le_of_eq ?_) (Finset.single_le_sum (fun k _ => sq_nonneg' (x k)) (Finset.mem_univ j)))
      rcases hj with hj | hj <;> rw [hj] <;> simp
    rw [hs, EReal.top_mul_coe_of_pos (by norm_num), EReal.top_add_coe]
    exact ⟨0, by simp⟩
  · have hx : ∀ j, x j = ((x j).toReal : EReal) := fun j => by
      refine (EReal.coe_toReal ?_ ?_).symm
      · exact fun hj => h ⟨j, .inl hj⟩
      · exact fun hj => h ⟨j, .inr hj⟩
    have hs : ∑ k, x k * x k = ((∑ k, (x k).toReal * (x k).toReal : ℝ) : EReal) := Attn.sum_mul_real _ _ hx hx
    have h0 : 0 ≤ ∑ k, (x k).toReal * (x k).toReal := Finset.sum_nonneg fun k _ => mul_self_nonneg _
    have hp : 0 < (∑ k, (x k).toReal * (x k).toReal) * (1 / 1024) + e := by positivity
    rw [hs, ← EReal.coe_mul, ← EReal.coe_add, Ideal.rsqrt_coe, if_neg hp.le.not_gt, if_neg hp.ne', hx k, ← EReal.coe_mul]
    exact ⟨_, rfl⟩

/-- With real gain, shift, scale and weights a projected entry is real. -/
theorem proj_real (t : Token) (w : Weights) (n : Fin 2560) (hg : ∀ k, ∃ r : ℝ, w.g k = (r : EReal))
    (hs : ∀ k, ∃ r : ℝ, t.shift k = (r : EReal)) (hc : ∀ k, ∃ r : ℝ, t.scale k = (r : EReal))
    (hw : ∀ k, ∃ r : ℝ, w.w k n = (r : EReal)) : ∃ r : ℝ, proj t w n = (r : EReal) := by
  have hh : ∀ k, ∃ r : ℝ, hidden t w k * w.w k n = (r : EReal) := fun k => by
    obtain ⟨a, ha⟩ := normed_real t.x k
    obtain ⟨g, hg⟩ := hg k
    obtain ⟨s, hs⟩ := hs k
    obtain ⟨c, hc⟩ := hc k
    obtain ⟨v, hv⟩ := hw k
    refine ⟨(a * g * (1 + c) + s) * v, ?_⟩
    unfold hidden
    rw [ha, hg, hs, hc, hv]
    push_cast
    rfl
  choose f hf using hh
  exact ⟨_, Attn.sum_real f hf⟩

/-- The error unit of a real is real. -/
theorem gelu_real (r : ℝ) : ∃ q : ℝ, gelu (r : EReal) = (q : EReal) := by
  obtain ⟨a, ha⟩ : ∃ a : ℝ, Ideal.ofBits .f32 0x3F000000#32 = (a : EReal) := ⟨_, by simp [Ideal.ofBits, Ideal.ieee]; rfl⟩
  obtain ⟨b, hb⟩ : ∃ a : ℝ, Ideal.ofBits .f32 0x3F4C422A#32 = (a : EReal) := ⟨_, by simp [Ideal.ofBits, Ideal.ieee]; rfl⟩
  obtain ⟨c, hc⟩ : ∃ a : ℝ, Ideal.ofBits .f32 0x3D372713#32 = (a : EReal) := ⟨_, by simp [Ideal.ofBits, Ideal.ieee]; rfl⟩
  refine ⟨r * (a * (1 + Real.tanh (b * (r + c * (r * r * r))))), ?_⟩
  unfold gelu
  rw [ha, hb, hc, ← EReal.coe_mul, ← EReal.coe_mul, ← EReal.coe_mul, ← EReal.coe_add, ← EReal.coe_mul, Ideal.tanh_coe]
  push_cast
  rfl

end Layer.Inproj

end
-- ==== Proof.InprojKernel.lean ====
/-
  What one block of the input projection's kernel computes: its five stored blocks read entry by entry, as functions of
  the tokens of the loads.
-/
module

public import proofs.«01_k».proof.Proof.InprojSpec
public import proofs.«01_k».proof.Proof.Gen.Kernel3Ideal.Value

@[expose] public section

set_option maxRecDepth 16384

noncomputable section

namespace Layer.Inproj.Block

open Idealize.ShloMosaic Cert.Kernel3Ideal Cert.Kernel3Ideal.Gen

/-- Row `r` of the loads as a token. -/
def token (x : Vec Ideal S1x256x1024 .f32) (sc sh : Vec Ideal S1x1x1x1024 .f32) (r : Fin 256) : Token where
  x k := x (ix3 0 r k)
  shift k := sh (ix4 0 0 0 k)
  scale k := sc (ix4 0 0 0 k)

/-- The gain and the weights as loaded. -/
def weights (g : Vec Ideal S1x1024 .f32) (w : Vec Ideal S1024x2560 .bf16) : Weights where
  g k := g (ix2 0 k)
  w k n := w (ix2 k n)

/-- The tile's projection. -/
theorem pay3_apply (x : Vec Ideal S1x256x1024 .f32) (g : Vec Ideal S1x1024 .f32) (sc sh : Vec Ideal S1x1x1x1024 .f32)
    (w : Vec Ideal S1024x2560 .bf16) (r : Fin 256) (n : Fin 2560) :
    k0_pay3 (F := Ideal) x g sc sh w (ix2 r n) = proj (token x sc sh r) (weights g w) n := by
  pointwise [k0_pay3, proj, hidden, token, weights]
  rfl

variable (P : FVec Ideal S256x2560 .f32) (c s : FVec Ideal S256x128 .f32)

/-- Row `r` of a projected block. -/
def row (r : Fin 256) (n : Fin 2560) : EReal := P (ix2 r n)

/-- Row `r` of a block of cosines or sines. -/
def tab (r : Fin 256) (l : Fin 128) : EReal := c (ix2 r l)

/-! ## The rotation, two heads' columns at a time -/

/-- Bit 4 of a lane says in which half of its 32 columns it lies. -/
theorem bit4 : ∀ l : Fin 128, IntOp.cmpi .eq (IntOp.andi (BitVec.ofNat 32 l.val) 16#32) 0#32
    = if l.val % 32 < 16 then 1#1 else 0#1 := by decide +kernel

/-- Two heads' columns at `o`: the two rolls by 16 bring each column its partner. -/
theorem piece (p : Fin 2560 → EReal) (c s : Fin 128 → EReal) (o : ℕ) (ho : o % 128 = 0) (h : o + 128 ≤ 2560) (l : Fin 128) :
    p ⟨o + l.val, by omega⟩ * c l
      + Scalar.select (IntOp.cmpi .eq (IntOp.andi (BitVec.ofNat 32 l.val) 16#32) 0#32)
          (p ⟨o + (l.val + 128 - 112) % 128, by omega⟩) (p ⟨o + (l.val + 128 - 16) % 128, by omega⟩) * s l
      = rope p c s ⟨o + l.val, by omega⟩ := by
  have hl := l.isLt
  unfold rope
  rw [bit4]
  have e : (⟨(o + l.val) % 128, by omega⟩ : Fin 128) = l := Fin.ext (by show (o + l.val) % 128 = l.val; omega)
  simp only [e]
  congr 2
  by_cases hh : l.val % 32 < 16
  · rw [if_pos hh]
    show p _ = p _
    congr 1
    refine Fin.ext ?_
    show o + (l.val + 128 - 112) % 128 = if (o + l.val) % 32 < 16 then o + l.val + 16 else o + l.val - 16
    rw [if_pos (by omega)]
    omega
  · rw [if_neg hh]
    show p _ = p _
    congr 1
    refine Fin.ext ?_
    show o + (l.val + 128 - 16) % 128 = if (o + l.val) % 32 < 16 then o + l.val + 16 else o + l.val - 16
    rw [if_neg (by omega)]
    omega

/-- The first head's rotated and scaled queries. -/
theorem pay7_apply (r : Fin 256) (l : Fin 128) : k0_pay7 (F := Ideal) P c s (ix2 r l)
    = rope (row P r) (tab c r) (tab s r) ⟨l.val, by omega⟩ * Ideal.ofBits .f32 0x3E000000#32 := by
  have h := piece (row P r) (tab c r) (tab s r) 0 rfl (by omega) l
  simp only [Nat.zero_add] at h
  pointwise [k0_pay7, k0_pay6]
  exact congrArg (· * _) h

/-- The first head's rotated keys. -/
theorem pay8_apply (r : Fin 256) (l : Fin 128) : k0_pay8 (F := Ideal) P c s (ix2 r l)
    = rope (row P r) (tab c r) (tab s r) ⟨512 + l.val, by omega⟩ := by
  pointwise [k0_pay8, k0_pay6]
  exact piece (row P r) (tab c r) (tab s r) 512 rfl (by omega) l

/-- The second head's rotated and scaled queries. -/
theorem pay9_apply (r : Fin 256) (l : Fin 128) : k0_pay9 (F := Ideal) P c s (ix2 r l)
    = rope (row P r) (tab c r) (tab s r) ⟨128 + l.val, by omega⟩ * Ideal.ofBits .f32 0x3E000000#32 := by
  pointwise [k0_pay9, k0_pay6]
  exact congrArg (· * _) (piece (row P r) (tab c r) (tab s r) 128 rfl (by omega) l)

/-- The second head's rotated keys. -/
theorem pay10_apply (r : Fin 256) (l : Fin 128) : k0_pay10 (F := Ideal) P c s (ix2 r l)
    = rope (row P r) (tab c r) (tab s r) ⟨640 + l.val, by omega⟩ := by
  pointwise [k0_pay10, k0_pay6]
  exact piece (row P r) (tab c r) (tab s r) 640 rfl (by omega) l

/-- The third head's rotated queries, before they are scaled. -/
theorem pay12_apply (r : Fin 256) (l : Fin 128) : k0_pay12 (F := Ideal) P c s (ix2 r l)
    = rope (row P r) (tab c r) (tab s r) ⟨256 + l.val, by omega⟩ := by
  pointwise [k0_pay12, k0_pay6]
  exact piece (row P r) (tab c r) (tab s r) 256 rfl (by omega) l

/-- The stored queries, transposed and scaled by 1/8. -/
theorem query (r : Fin 256) (j : Fin 512) :
    k0_pay13 (F := Ideal) P c s k0_pay6 (k0_pay7 P c s) (k0_pay9 P c s) (k0_pay12 P c s) (Scalar.ofBits .f32 0x3E000000#32) (ix4 0 0 j r)
      = rope (row P r) (tab c r) (tab s r) ⟨j.val, by omega⟩ * Ideal.ofBits .f32 0x3E000000#32 := by
  have hj := j.isLt
  pointwise [k0_pay13, k0_pay6]
  by_cases h1 : j.val < 128
  · refine (dif_pos h1).trans ?_
    rw [pay7_apply]
  refine (dif_neg h1).trans ?_
  by_cases h2 : j.val - 128 < 128
  · refine (dif_pos h2).trans ?_
    rw [pay9_apply]
    simp only [show 128 + (j.val - 128) = j.val by omega]
  refine (dif_neg h2).trans ?_
  by_cases h3 : j.val - 128 - 128 < 128
  · refine (dif_pos h3).trans ?_
    rw [pay12_apply]
    simp only [show 256 + (j.val - 128 - 128) = j.val by omega]
  · refine (dif_neg h3).trans ?_
    refine congrArg (· * _) ((piece (row P r) (tab c r) (tab s r) 384 rfl (by omega) ⟨j.val - 128 - 128 - 128, by omega⟩).trans ?_)
    simp only [show 384 + (j.val - 128 - 128 - 128) = j.val by omega]

/-- The stored keys. -/
theorem key (r : Fin 256) (j : Fin 512) :
    k0_pay14 (F := Ideal) P c s k0_pay6 (k0_pay8 P c s) (k0_pay10 P c s) (k0_pay11 P) (ix3 0 r j)
      = rope (row P r) (tab c r) (tab s r) ⟨512 + j.val, by omega⟩ := by
  have hj := j.isLt
  pointwise [k0_pay14, k0_pay6, k0_pay11]
  by_cases h1 : j.val < 128
  · refine (dif_pos h1).trans ?_
    rw [pay8_apply]
  refine (dif_neg h1).trans ?_
  by_cases h2 : j.val - 128 < 128
  · refine (dif_pos h2).trans ?_
    rw [pay10_apply]
    simp only [show 640 + (j.val - 128) = 512 + j.val by omega]
  refine (dif_neg h2).trans ?_
  by_cases h3 : j.val - 128 - 128 < 128
  · refine (dif_pos h3).trans ?_
    refine (piece (row P r) (tab c r) (tab s r) 768 rfl (by omega) ⟨j.val - 128 - 128, by omega⟩).trans ?_
    simp only [show 768 + (j.val - 128 - 128) = 512 + j.val by omega]
  · refine (dif_neg h3).trans ?_
    refine (piece (row P r) (tab c r) (tab s r) 896 rfl (by omega) ⟨j.val - 128 - 128 - 128, by omega⟩).trans ?_
    simp only [show 896 + (j.val - 128 - 128 - 128) = 512 + j.val by omega]

/-- The stored values, transposed. -/
theorem value (r : Fin 256) (j : Fin 512) :
    k0_pay16 (F := Ideal) (k0_pay15 P) (ix4 0 0 j r) = row P r ⟨1024 + j.val, by omega⟩ := by
  pointwise [k0_pay16, k0_pay15, row]

/-! ## The recurrence's input and gate -/

/-- The recurrence's input columns, as projected. -/
theorem lru_x (r j : Fin 256) : k0_pay17 (F := Ideal) P (ix3 0 r j) = row P r ⟨1536 + j.val, by omega⟩ := by
  pointwise [k0_pay17, row]

/-- The recurrence's gate columns after gelu. -/
theorem lru_gate (r j : Fin 256) : k0_pay18 (F := Ideal) P (ix3 0 r j) = gelu (row P r ⟨1792 + j.val, by omega⟩) := by
  pointwise [k0_pay18, gelu, row]
  rw [mul_assoc (P _) (P _) (P _)]

/-! ## The spatial gate -/

/-- The spatial gate's columns after gelu. -/
theorem pay19_apply (r j : Fin 256) : k0_pay19 (F := Ideal) P (ix2 r j) = gelu (row P r ⟨2048 + j.val, by omega⟩) := by
  pointwise [k0_pay19, gelu, row]
  rw [mul_assoc (P _) (P _) (P _)]

/-- The second half before its norm. -/
theorem half_apply (r j : Fin 256) :
    k0_pay20 (F := Ideal) P (ix2 r j) * (Ideal.ofBits .f32 0x3F000000#32
      * (1 + Ideal.tanh (Ideal.ofBits .f32 0x3F4C422A#32 * k0_pay21 (F := Ideal) P (ix2 r j)))) = half (row P r) j := by
  pointwise [k0_pay21, k0_pay20, half, gelu, row]
  rw [mul_assoc (P _) (P _) (P _)]

/-- The word of 64. -/
theorem word_64 : Ideal.ofBits .f32 0x42800000#32 = ((64 : ℝ) : EReal) := by
  simp [Ideal.ofBits, Ideal.ieee]
  norm_num [← EReal.coe_mul]

/-- The word of 1/64. -/
theorem word_64th : Ideal.ofBits .f32 0x3C800000#32 = ((1 / 64 : ℝ) : EReal) := by
  simp [Ideal.ofBits, Ideal.ieee]
  norm_num [← EReal.coe_mul]

/-- The norm over groups of 64 columns: a row of squares times the table that has ones where both columns lie in one
    group, where the squares are real, so that what the rounding left of them is nothing. -/
theorem unit_apply (o : Vec Ideal S256x256 .bf16) (g : Vec Ideal S1x256 .f32)
    (ho : ∀ x l : Fin 256, o (ix2 x l) = if x.val / 64 = l.val / 64 then 1 else 0)
    (r : Fin 256) (hv : ∀ x, ∃ q : ℝ, half (row P r) x = (q : EReal)) (l : Fin 256) :
    k0_pay22 (F := Ideal) (k0_pay20 P) (k0_pay21 P) o o g (ix2 r l) = unit (half (row P r)) (fun l => g (ix2 0 l)) l := by
  pointwise [k0_pay22]
  simp only [half_apply]
  have hz : ∀ x : Fin 256, half (row P r) x * half (row P r) x - half (row P r) x * half (row P r) x = 0 := fun x => by
    obtain ⟨q, hq⟩ := hv x
    rw [hq, ← EReal.coe_mul, ← EReal.coe_sub, sub_self, EReal.coe_zero]
  simp only [hz, zero_mul, Finset.sum_const_zero, add_zero]
  have hl := l.isLt
  rw [sum_block (n := 64) _ (64 * (l.val / 64)) (by omega) (fun x hx => by
    rw [ho, if_neg (by omega), mul_zero])]
  unfold unit mate
  rw [word_64, Ideal.div_coe (by norm_num), word_64th]
  refine congrArg (fun y => half (row P r) l * Ideal.rsqrt (y * _ + _) * g (ix2 0 l)) (Finset.sum_congr rfl fun q _ => ?_)
  rw [ho, if_pos (by show (64 * (l.val / 64) + q.val) / 64 = l.val / 64; omega), mul_one]

/-- A lane's group as the kernel counts it: the quotient by 64. -/
theorem group : ∀ (r : Fin 128) (l : Fin 256), k0_pay25 (iota .tc S128x256 32 [1] iota_S128x256_d1_w32) 64#32 k0_pay23 k0_pay24
    (Scalar.extui (Scalar.cmpi .sgt 64#32 0#32)) 0#32 (ix2 r l) = BitVec.ofNat 32 (l.val / 64) := by
  intro r l
  pointwise [k0_pay25, k0_pay24, k0_pay23]
  revert l
  decide +kernel

/-- A comparison of two group numbers. -/
theorem same : ∀ a b : Fin 4, IntOp.cmpi .eq (BitVec.ofNat 32 a.val) (BitVec.ofNat 32 b.val) = if a = b then 1#1 else 0#1 := by
  decide +kernel

/-- Four copies of a chunk, each masked to one group, under the four groups' weights side by side: of the four products
    only the group's own is left. -/
theorem masked (w : Fin 512 → EReal) (v : Fin 128 → EReal) (a : Fin 4) :
    (∑ x : Fin 512, w x *
        if h : x.val < 128 then Scalar.select (IntOp.cmpi .eq (BitVec.ofNat 32 a.val) 0#32) (v ⟨x.val, h⟩) 0
        else if h : x.val - 128 < 128 then Scalar.select (IntOp.cmpi .eq (BitVec.ofNat 32 a.val) 1#32) (v ⟨x.val - 128, h⟩) 0
        else if h : x.val - 128 - 128 < 128 then
          Scalar.select (IntOp.cmpi .eq (BitVec.ofNat 32 a.val) 2#32) (v ⟨x.val - 128 - 128, h⟩) 0
        else Scalar.select (IntOp.cmpi .eq (BitVec.ofNat 32 a.val) 3#32) (v ⟨x.val - 128 - 128 - 128, by omega⟩) 0)
      = ∑ q : Fin 128, v q * w ⟨128 * a.val + q.val, by omega⟩ := by
  have ha := a.isLt
  have sel : ∀ (b : Fin 4) (z : EReal), Scalar.select (IntOp.cmpi .eq (BitVec.ofNat 32 a.val) (BitVec.ofNat 32 b.val)) z 0
      = if a = b then z else 0 := fun b z => by
    rw [same]
    by_cases h : a = b
    · rw [if_pos h, if_pos h]; rfl
    · rw [if_neg h, if_neg h]; rfl
  have sel0 := sel 0
  have sel1 := sel 1
  have sel2 := sel 2
  have sel3 := sel 3
  simp only [Fin.val_zero, Fin.val_one, show (2 : Fin 4).val = 2 from rfl, show (3 : Fin 4).val = 3 from rfl] at sel0 sel1 sel2 sel3
  have branch : ∀ (b : Fin 4) (q : Fin 128) (x : Fin 512), x.val = 128 * b.val + q.val →
      (if a = b then v q else 0) = if x.val / 128 = a.val then v ⟨x.val % 128, by omega⟩ else 0 := fun b q x hx => by
    have hq := q.isLt
    have hb : x.val / 128 = b.val := by omega
    have hm : x.val % 128 = q.val := by omega
    simp only [hb, hm, Fin.ext_iff, eq_comm (a := a.val)]
  have chain : ∀ x : Fin 512, (if h : x.val < 128 then (if a = 0 then v ⟨x.val, h⟩ else 0)
        else if h : x.val - 128 < 128 then (if a = 1 then v ⟨x.val - 128, h⟩ else 0)
        else if h : x.val - 128 - 128 < 128 then (if a = 2 then v ⟨x.val - 128 - 128, h⟩ else 0)
        else (if a = 3 then v ⟨x.val - 128 - 128 - 128, by omega⟩ else 0))
      = if x.val / 128 = a.val then v ⟨x.val % 128, by omega⟩ else 0 := fun x => by
    have hx := x.isLt
    by_cases h1 : x.val < 128
    · exact (dif_pos h1).trans (branch 0 ⟨x.val, h1⟩ x (by show x.val = 128 * 0 + x.val; omega))
    refine (dif_neg h1).trans ?_
    by_cases h2 : x.val - 128 < 128
    · exact (dif_pos h2).trans (branch 1 ⟨x.val - 128, h2⟩ x (by show x.val = 128 * 1 + (x.val - 128); omega))
    refine (dif_neg h2).trans ?_
    by_cases h3 : x.val - 128 - 128 < 128
    · exact (dif_pos h3).trans (branch 2 ⟨x.val - 128 - 128, h3⟩ x (by show x.val = 128 * 2 + (x.val - 128 - 128); omega))
    exact (dif_neg h3).trans (branch 3 ⟨x.val - 128 - 128 - 128, by omega⟩ x
      (by show x.val = 128 * 3 + (x.val - 128 - 128 - 128); omega))
  simp only [sel0, sel1, sel2, sel3, chain]
  rw [sum_block (n := 128) _ (128 * a.val) (by omega) (fun x hx => by
    rw [if_neg (by omega), mul_zero])]
  refine Finset.sum_congr rfl fun q _ => ?_
  have hq := q.isLt
  rw [mul_comm, if_pos (by show (128 * a.val + q.val) / 128 = a.val; omega)]
  congr 2
  exact Fin.ext (by show (128 * a.val + q.val) % 128 = q.val; omega)

/-- The stored gate's upper 128 rows. -/
theorem gate_hi (u v : FVec Ideal S256x256 .f32) (w : Vec Ideal S128x512 .bf16) (b : Vec Ideal S128x256 .f32) (r : Fin 128) (l : Fin 256) :
    k0_pay2 (F := Ideal) u v (k0_pay25 (iota .tc S128x256 32 [1] iota_S128x256_d1_w32) 64#32 k0_pay23 k0_pay24
        (Scalar.extui (Scalar.cmpi .sgt 64#32 0#32)) 0#32) w b (ix3 0 r l)
      = mixed (u (ix2 ⟨128 + r.val, by omega⟩ l)) (fun q => v (ix2 ⟨128 + q.val, by omega⟩ l))
          (fun q => w (ix2 r ⟨128 * (l.val / 64) + q.val, by omega⟩)) (b (ix2 r l)) := by
  have hg := group
  generalize k0_pay25 (iota .tc S128x256 32 [1] iota_S128x256_d1_w32) 64#32 k0_pay23 k0_pay24
    (Scalar.extui (Scalar.cmpi .sgt 64#32 0#32)) 0#32 = G at hg ⊢
  pointwise [k0_pay2]
  simp only [hg]
  have := masked (fun x => w (ix2 r x)) (fun q => v (ix2 ⟨128 + q.val, by omega⟩ l)) ⟨l.val / 64, by omega⟩
  exact congrArg (fun y => u (ix2 ⟨128 + r.val, by omega⟩ l) * (y + b (ix2 r l))) this

/-- The stored gate's lower 128 rows. -/
theorem gate_lo (u v : FVec Ideal S256x256 .f32) (w : Vec Ideal S128x512 .bf16) (b : Vec Ideal S128x256 .f32) (r : Fin 128) (l : Fin 256) :
    k0_pay1 (F := Ideal) (k0_pay26 u v (iota .tc S128x256 32 [1] iota_S128x256_d1_w32) 64#32 k0_pay23 k0_pay24
        (Scalar.extui (Scalar.cmpi .sgt 64#32 0#32)) 0#32 w b) (ix3 0 r l)
      = mixed (u (ix2 ⟨r.val, by omega⟩ l)) (fun q => v (ix2 ⟨q.val, by omega⟩ l))
          (fun q => w (ix2 r ⟨128 * (l.val / 64) + q.val, by omega⟩)) (b (ix2 r l)) := by
  have hg := group
  unfold k0_pay26
  generalize k0_pay25 (iota .tc S128x256 32 [1] iota_S128x256_d1_w32) 64#32 k0_pay23 k0_pay24
    (Scalar.extui (Scalar.cmpi .sgt 64#32 0#32)) 0#32 = G at hg ⊢
  pointwise [k0_pay1]
  simp only [hg]
  have := masked (fun x => w (ix2 r x)) (fun q => v (ix2 ⟨q.val, by omega⟩ l)) ⟨l.val / 64, by omega⟩
  exact congrArg (fun y => u (ix2 ⟨r.val, by omega⟩ l) * (y + b (ix2 r l))) this

end Layer.Inproj.Block

end
-- ==== Proof.InprojRef.lean ====
/-
  What the reference's projection computes: the projected row of each token, the rotated queries and keys and the values.
-/
module

public import proofs.«01_k».proof.Proof.InprojSpec
public import proofs.«01_k».proof.Proof.Gen.Reference3Ideal.Read

@[expose] public section

set_option maxRecDepth 16384

noncomputable section

namespace Layer.Inproj.Whole

open Idealize.ShloMosaic Cert.Reference3Ideal Cert.Reference3Ideal.Gen Cert.Reference3Ideal.Read

variable (x : FVec Ideal S8x4352x1024 .f32) (m : FVec Ideal S16x6x1x1024 .f32) (g : FVec Ideal S1024 .f32)
  (w : FVec Ideal S1024x2560 .f32)

/-- The row of the modulation array for token `T` of batch `b`: row 8 for the context's 256 tokens, the batch's own for
    the latents. -/
def source (b : Fin 8) (T : Fin 4352) : Fin 16 := ⟨if T.val < 256 then 8 else b.val, by split <;> omega⟩

/-- Token `T` of batch `b`. -/
def token (b : Fin 8) (T : Fin 4352) : Token where
  x k := x (ix3 b T k)
  shift k := m (ix4 (source b T) 0 0 k)
  scale k := m (ix4 (source b T) 1 0 k)

/-- The gain and the weights as arrays. -/
def weights : Weights where
  g k := g (ix1 k)
  w k n := w (ix2 k n)

/-- The projected row of token `T` of batch `b`. -/
def row (b : Fin 8) (T : Fin 4352) : Fin 2560 → EReal := proj (token x m b T) (weights g w)

/-- The latents' rows, normed. -/
theorem v64_apply (b : Fin 8) (s : Fin 4096) (k : Fin 1024) :
    val_main_v64 (F := Ideal) x (ix3 b s k)
      = (token x m b ⟨256 + s.val, by omega⟩).x k * Ffn.rms (token x m b ⟨256 + s.val, by omega⟩).x := by
  pointwise [val_main_v64, val_main_v63, val_main_v62, val_main_v61, val_main_v60, val_main_cst_3, val_main_v59,
    val_main_v58, val_main_cst_2, val_main_v57, val_main_v56, val_main_cst_1, val_main_v55, val_main_v30, token, Ffn.rms]

/-- The latents' rows, normed and modulated. -/
theorem v73_apply (b : Fin 8) (s : Fin 4096) (k : Fin 1024) :
    val_main_v73 (F := Ideal) x m g (ix3 b s k) = hidden (token x m b ⟨256 + s.val, by omega⟩) (weights g w) k := by
  have hs : source b ⟨256 + s.val, by omega⟩ = ⟨b.val, by omega⟩ := Fin.ext (if_neg (by simp))
  unfold hidden
  rw [← v64_apply x m b s k]
  generalize hy : val_main_v64 (F := Ideal) x = y
  pointwise [val_main_v73, val_main_v72, val_main_v71, val_main_v70, val_main_v69, val_main_v68, val_main_cst_4,
    val_main_v67, val_main_v66, val_main_v65, val_main_v31, val_main_v32, val_main_v33, val_main_v34, token, weights]
  rw [hs, hy]

/-- The latents' projected rows. -/
theorem v95_apply (b : Fin 8) (s : Fin 4096) (n : Fin 2560) :
    val_main_v95 (F := Ideal) x m g w (ix3 b s n) = row x m g w b ⟨256 + s.val, by omega⟩ n := by
  pointwise [val_main_v95]
  simp only [v73_apply x m g w]
  rfl

/-- The context's rows, normed. -/
theorem v83_apply (b : Fin 8) (s : Fin 256) (k : Fin 1024) :
    val_main_v83 (F := Ideal) x (ix3 b s k)
      = (token x m b ⟨s.val, by omega⟩).x k * Ffn.rms (token x m b ⟨s.val, by omega⟩).x := by
  pointwise [val_main_v83, val_main_v82, val_main_v81, val_main_v80, val_main_v79, val_main_cst_7, val_main_v78,
    val_main_v77, val_main_cst_6, val_main_v76, val_main_v75, val_main_cst_5, val_main_v74, val_main_v29, token, Ffn.rms]

/-- The context's rows, normed and modulated. -/
theorem v94_apply (b : Fin 8) (s : Fin 256) (k : Fin 1024) :
    val_main_v94 (F := Ideal) x m g (ix3 b s k) = hidden (token x m b ⟨s.val, by omega⟩) (weights g w) k := by
  have hs : source b ⟨s.val, by omega⟩ = 8 := Fin.ext (if_pos s.isLt)
  unfold hidden
  rw [← v83_apply x m b s k]
  generalize hy : val_main_v83 (F := Ideal) x = y
  pointwise [val_main_v94, val_main_v93, val_main_v92, val_main_v91, val_main_v90, val_main_v89, val_main_v88,
    val_main_v87, val_main_cst_8, val_main_v86, val_main_v85, val_main_v84, val_main_v43, val_main_v44, val_main_v45,
    val_main_v46, token, weights]
  rw [hs, hy]

/-- The context's projected rows. -/
theorem v96_apply (b : Fin 8) (s : Fin 256) (n : Fin 2560) :
    val_main_v96 (F := Ideal) x m g w (ix3 b s n) = row x m g w b ⟨s.val, by omega⟩ n := by
  pointwise [val_main_v96]
  simp only [v94_apply x m g w]
  rfl

/-- The cosines that rotate token `T`: one for the context, for a latent those of its row in the first 32 columns of
    every 64 and those of its column in the others. -/
def cosines (T : Fin 4352) (l : Fin 128) : EReal :=
  if h : T.val < 256 then 1
  else if l.val % 64 < 32 then val_main_v25 (F := Ideal) (ix2 (⟨T.val - 256, by omega⟩ : Fin 4096) ⟨l.val % 16, by omega⟩)
  else val_main_v27 (F := Ideal) (ix2 (⟨T.val - 256, by omega⟩ : Fin 4096) ⟨l.val % 16, by omega⟩)

/-- The sines that rotate token `T`, negative in the first 16 columns of every 32. -/
def sines (T : Fin 4352) (l : Fin 128) : EReal :=
  if h : T.val < 256 then 0
  else if l.val % 64 < 32 then
    if l.val % 32 < 16 then -val_main_v26 (F := Ideal) (ix2 (⟨T.val - 256, by omega⟩ : Fin 4096) ⟨l.val % 16, by omega⟩)
    else val_main_v26 (F := Ideal) (ix2 (⟨T.val - 256, by omega⟩ : Fin 4096) ⟨l.val % 16, by omega⟩)
  else
    if l.val % 32 < 16 then -val_main_v28 (F := Ideal) (ix2 (⟨T.val - 256, by omega⟩ : Fin 4096) ⟨l.val % 16, by omega⟩)
    else val_main_v28 (F := Ideal) (ix2 (⟨T.val - 256, by omega⟩ : Fin 4096) ⟨l.val % 16, by omega⟩)

/-- The rotation in a column of the first half of a pair. -/
theorem rope_first (p : Fin 2560 → EReal) (s : Fin 4096) (n n' n'' : Fin 2560) (e : Fin 16) (h : n.val % 32 < 16)
    (hn : n' = n) (hn' : n''.val = n.val + 16) (he : n.val % 16 = e.val) (c d : FVec Ideal S4096x16 .f32)
    (hc : if n.val % 64 < 32 then c = val_main_v25 (F := Ideal) ∧ d = val_main_v26 (F := Ideal)
      else c = val_main_v27 (F := Ideal) ∧ d = val_main_v28 (F := Ideal)) :
    p n' * c (ix2 s e) - p n'' * d (ix2 s e)
      = rope p (cosines ⟨256 + s.val, by omega⟩) (sines ⟨256 + s.val, by omega⟩) n := by
  have hT : ¬ 256 + s.val < 256 := by omega
  have h1 : n.val % 128 % 64 = n.val % 64 := by omega
  have h2 : n.val % 128 % 32 = n.val % 32 := by omega
  have h3 : n.val % 128 % 16 = n.val % 16 := by omega
  have hp : partner n = n'' := Fin.ext (by simp only [partner, if_pos h]; omega)
  unfold rope cosines sines
  simp only [dif_neg hT, h1, h2, h3, if_pos h, hp, hn, add_tsub_cancel_left, Fin.eta, he]
  by_cases hr : n.val % 64 < 32
  · rw [if_pos hr] at hc
    simp only [if_pos hr, hc.1, hc.2, mul_neg, sub_eq_add_neg]
  · rw [if_neg hr] at hc
    simp only [if_neg hr, hc.1, hc.2, mul_neg, sub_eq_add_neg]

/-- The rotation in a column of the second half of a pair. -/
theorem rope_second (p : Fin 2560 → EReal) (s : Fin 4096) (n n' n'' : Fin 2560) (e : Fin 16) (h : ¬ n.val % 32 < 16)
    (hn : n' = n) (hn' : n''.val + 16 = n.val) (he : n.val % 16 = e.val) (c d : FVec Ideal S4096x16 .f32)
    (hc : if n.val % 64 < 32 then c = val_main_v25 (F := Ideal) ∧ d = val_main_v26 (F := Ideal)
      else c = val_main_v27 (F := Ideal) ∧ d = val_main_v28 (F := Ideal)) :
    p n'' * d (ix2 s e) + p n' * c (ix2 s e)
      = rope p (cosines ⟨256 + s.val, by omega⟩) (sines ⟨256 + s.val, by omega⟩) n := by
  have hT : ¬ 256 + s.val < 256 := by omega
  have h1 : n.val % 128 % 64 = n.val % 64 := by omega
  have h2 : n.val % 128 % 32 = n.val % 32 := by omega
  have h3 : n.val % 128 % 16 = n.val % 16 := by omega
  have hp : partner n = n'' := Fin.ext (by simp only [partner, if_neg h]; omega)
  unfold rope cosines sines
  simp only [dif_neg hT, h1, h2, h3, if_neg h, hp, hn, add_tsub_cancel_left, Fin.eta, he]
  rw [add_comm]
  by_cases hr : n.val % 64 < 32
  · rw [if_pos hr] at hc
    simp only [if_pos hr, hc.1, hc.2]
  · rw [if_neg hr] at hc
    simp only [if_neg hr, hc.1, hc.2]

/-- The context isn't rotated. -/
theorem rope_context (p : Fin 2560 → EReal) (T : Fin 4352) (hT : T.val < 256) (n : Fin 2560) :
    rope p (cosines T) (sines T) n = p n := by
  unfold rope cosines sines
  simp only [dif_pos hT, mul_one, mul_zero, add_zero]

/-- The latents' queries, head by head, rotated. -/
theorem v132_apply (b : Fin 8) (s : Fin 4096) (h : Fin 8) (e : Fin 64) :
    val_main_v132 (F := Ideal) x m g w (ix4 b s h e)
      = rope (row x m g w b ⟨256 + s.val, by omega⟩) (cosines ⟨256 + s.val, by omega⟩) (sines ⟨256 + s.val, by omega⟩)
          ⟨(h.val * 64 + e.val), by omega⟩ := by
  have hh := h.isLt
  have he := e.isLt
  pointwise [val_main_v132, val_main_v131, val_main_v130, val_main_v129, val_main_v128, val_main_v127, val_main_v126,
    val_main_v125, val_main_v124, val_main_v123, val_main_v122, val_main_v121, val_main_v120,
    val_main_v119, val_main_v118, val_main_v117, val_main_v116, val_main_v115, val_main_v114,
    val_main_v113, val_main_v112, val_main_v111, val_main_v110, val_main_v109, val_main_v108,
    val_main_v107, val_main_v106, val_main_v105, val_main_v104, val_main_v103, val_main_v102,
    val_main_v101, val_main_v100, val_main_v99, val_main_v98]
  simp only [v95_apply x m g w]
  by_cases h1 : e.val < 32
  · refine (dif_pos h1).trans ?_
    by_cases h2 : e.val < 16
    · refine (dif_pos h2).trans ?_
      refine rope_first _ s _ _ _ ⟨e.val, h2⟩ ?_ rfl ?_ ?_ _ _ ?_ <;> dsimp only <;> first | omega | exact (if_pos (by omega)).mpr ⟨rfl, rfl⟩
    · refine (dif_neg h2).trans ?_
      refine rope_second _ s _ _ _ ⟨e.val - 16, by omega⟩ ?_ (Fin.ext ?_) ?_ ?_ _ _ ?_ <;> dsimp only <;> first | omega | exact (if_pos (by omega)).mpr ⟨rfl, rfl⟩
  · refine (dif_neg h1).trans ?_
    by_cases h2 : e.val - 32 < 16
    · refine (dif_pos h2).trans ?_
      refine rope_first _ s _ _ _ ⟨e.val - 32, h2⟩ ?_ (Fin.ext ?_) ?_ ?_ _ _ ?_ <;> dsimp only <;> first | omega | exact (if_neg (by omega)).mpr ⟨rfl, rfl⟩
    · refine (dif_neg h2).trans ?_
      refine rope_second _ s _ _ _ ⟨e.val - 32 - 16, by omega⟩ ?_ (Fin.ext ?_) ?_ ?_ _ _ ?_ <;> dsimp only <;> first | omega | exact (if_neg (by omega)).mpr ⟨rfl, rfl⟩

/-- The latents' keys, head by head, rotated. -/
theorem v172_apply (b : Fin 8) (s : Fin 4096) (h : Fin 8) (e : Fin 64) :
    val_main_v172 (F := Ideal) x m g w (ix4 b s h e)
      = rope (row x m g w b ⟨256 + s.val, by omega⟩) (cosines ⟨256 + s.val, by omega⟩) (sines ⟨256 + s.val, by omega⟩)
          ⟨512 + (h.val * 64 + e.val), by omega⟩ := by
  have hh := h.isLt
  have he := e.isLt
  pointwise [val_main_v172, val_main_v171, val_main_v170, val_main_v169, val_main_v168, val_main_v167, val_main_v166,
    val_main_v165, val_main_v164, val_main_v163, val_main_v162, val_main_v161, val_main_v160,
    val_main_v159, val_main_v158, val_main_v157, val_main_v156, val_main_v155, val_main_v154,
    val_main_v153, val_main_v152, val_main_v151, val_main_v150, val_main_v149, val_main_v148,
    val_main_v147, val_main_v146, val_main_v145, val_main_v144, val_main_v143, val_main_v142,
    val_main_v141, val_main_v140, val_main_v139, val_main_v138]
  simp only [v95_apply x m g w]
  by_cases h1 : e.val < 32
  · refine (dif_pos h1).trans ?_
    by_cases h2 : e.val < 16
    · refine (dif_pos h2).trans ?_
      refine rope_first _ s _ _ _ ⟨e.val, h2⟩ ?_ rfl ?_ ?_ _ _ ?_ <;> dsimp only <;> first | omega | exact (if_pos (by omega)).mpr ⟨rfl, rfl⟩
    · refine (dif_neg h2).trans ?_
      refine rope_second _ s _ _ _ ⟨e.val - 16, by omega⟩ ?_ (Fin.ext ?_) ?_ ?_ _ _ ?_ <;> dsimp only <;> first | omega | exact (if_pos (by omega)).mpr ⟨rfl, rfl⟩
  · refine (dif_neg h1).trans ?_
    by_cases h2 : e.val - 32 < 16
    · refine (dif_pos h2).trans ?_
      refine rope_first _ s _ _ _ ⟨e.val - 32, h2⟩ ?_ (Fin.ext ?_) ?_ ?_ _ _ ?_ <;> dsimp only <;> first | omega | exact (if_neg (by omega)).mpr ⟨rfl, rfl⟩
    · refine (dif_neg h2).trans ?_
      refine rope_second _ s _ _ _ ⟨e.val - 32 - 16, by omega⟩ ?_ (Fin.ext ?_) ?_ ?_ _ _ ?_ <;> dsimp only <;> first | omega | exact (if_neg (by omega)).mpr ⟨rfl, rfl⟩

/-- Column `j` of token `T`'s queries. -/
theorem v134_apply (b : Fin 8) (T : Fin 4352) (j : Fin 512) :
    val_main_v134 (F := Ideal) x m g w (ix3 b T j)
      = rope (row x m g w b T) (cosines T) (sines T) ⟨j.val, by omega⟩ := by
  have hj := j.isLt
  pointwise [val_main_v134, val_main_v133, val_main_v97]
  simp only [v96_apply x m g w, v132_apply x m g w]
  by_cases h : T.val < 256
  · exact (dif_pos h).trans (rope_context _ T h _).symm
  · refine (dif_neg h).trans ?_
    have hT : (⟨256 + (T.val - 256), by omega⟩ : Fin 4352) = T := Fin.ext (by dsimp only; omega)
    simp only [hT]
    congr 1
    exact Fin.ext (by dsimp only; omega)

/-- Column `j` of token `T`'s keys. -/
theorem v174_apply (b : Fin 8) (T : Fin 4352) (j : Fin 512) :
    val_main_v174 (F := Ideal) x m g w (ix3 b T j)
      = rope (row x m g w b T) (cosines T) (sines T) ⟨512 + j.val, by omega⟩ := by
  have hj := j.isLt
  pointwise [val_main_v174, val_main_v173, val_main_v137]
  simp only [v96_apply x m g w, v172_apply x m g w]
  by_cases h : T.val < 256
  · exact (dif_pos h).trans (rope_context _ T h _).symm
  · refine (dif_neg h).trans ?_
    have hT : (⟨256 + (T.val - 256), by omega⟩ : Fin 4352) = T := Fin.ext (by dsimp only; omega)
    simp only [hT]
    congr 1
    exact Fin.ext (by dsimp only; omega)

/-- Column `j` of token `T`'s values. -/
theorem v177_apply (b : Fin 8) (T : Fin 4352) (j : Fin 512) :
    val_main_v177 (F := Ideal) x m g w (ix3 b T j) = row x m g w b T ⟨1024 + j.val, by omega⟩ := by
  pointwise [val_main_v177, val_main_v176, val_main_v175]
  simp only [v96_apply x m g w, v95_apply x m g w]
  by_cases h : T.val < 256
  · exact dif_pos h
  · refine (dif_neg h).trans ?_
    have hT : (⟨256 + (T.val - 256), by omega⟩ : Fin 4352) = T := Fin.ext (by dsimp only; omega)
    simp only [hT]

/-- The queries' result, tile by tile and transposed. -/
theorem v287_apply (b : Fin 8) (i : Fin 17) (j : Fin 512) (r : Fin 256) :
    val_main_v287 (F := Ideal) x m g w (ix4 b i j r)
      = rope (row x m g w b ⟨i.val * 256 + r.val, by omega⟩) (cosines ⟨i.val * 256 + r.val, by omega⟩)
          (sines ⟨i.val * 256 + r.val, by omega⟩) ⟨j.val, by omega⟩ * Ideal.ofBits .f32 0x3E000000#32 := by
  pointwise [val_main_v287, val_main_v286, val_main_v285, val_main_v136, val_main_v135, val_main_cst_9]
  simp only [v134_apply x m g w]

/-- The keys' result. -/
theorem v288_apply (b : Fin 8) (T : Fin 4352) (j : Fin 512) :
    val_main_v288 (F := Ideal) x m g w (ix3 b T j)
      = rope (row x m g w b T) (cosines T) (sines T) ⟨512 + j.val, by omega⟩ := by
  pointwise [val_main_v288]
  simp only [v174_apply x m g w]

/-- An array of tokens cut into tiles of 256, each transposed. -/
theorem tiles (G : FVec Ideal S8x4352x512 .f32) (b : Fin 8) (i : Fin 17) (j : Fin 512) (r : Fin 256) :
    transpose S8x17x512x256 [0, 1, 3, 2] (shapeCast S8x17x256x512 G shapeCasts_S8x4352x512_S8x17x256x512)
      transposes_S8x17x256x512_S8x17x512x256_0_1_3_2 (ix4 b i j r) = G (ix3 b ⟨i.val * 256 + r.val, by omega⟩ j) := by
  pointwise []

/-- The values' result, tile by tile and transposed. -/
theorem v291_apply (b : Fin 8) (i : Fin 17) (j : Fin 512) (r : Fin 256) :
    val_main_v291 (F := Ideal) x m g w (ix4 b i j r)
      = row x m g w b ⟨i.val * 256 + r.val, by omega⟩ ⟨1024 + j.val, by omega⟩ :=
  (val_main_v291_apply (F := Ideal) x m g w _).trans ((tiles _ b i j r).trans (v177_apply x m g w _ _ _))

end Layer.Inproj.Whole

end
-- ==== Proof.InprojGate.lean ====
/-
  What the reference's recurrence input and spatial gate are: the projected row's columns, and the mixing of a chunk of 128
  tokens.
-/
module

public import proofs.«01_k».proof.Proof.InprojRef

@[expose] public section

set_option maxRecDepth 16384

noncomputable section

namespace Layer.Inproj.Whole

open Idealize.ShloMosaic Cert.Reference3Ideal Cert.Reference3Ideal.Gen Cert.Reference3Ideal.Read

variable (x : FVec Ideal S8x4352x1024 .f32) (m : FVec Ideal S16x6x1x1024 .f32) (g : FVec Ideal S1024 .f32)
  (w : FVec Ideal S1024x2560 .f32) (gs : FVec Ideal S256 .f32) (ws : FVec Ideal S4x128x128 .f32) (bs : FVec Ideal S4x128 .f32)

/-- Column `l` of the gate at token `T`: the chunk's normed halves mixed by row `T % 128` of the column's head. -/
def gated (b : Fin 8) (T : Fin 4352) (l : Fin 256) : EReal :=
  mixed (gelu (row x m g w b T ⟨2048 + l.val, by omega⟩))
    (fun q : Fin 128 => unit (half (row x m g w b ⟨T.val / 128 * 128 + q.val, by omega⟩)) (fun l => gs (ix1 l)) l)
    (fun q => ws (ix3 ⟨l.val / 64, by omega⟩ ⟨T.val % 128, by omega⟩ q))
    (bs (ix2 ⟨l.val / 64, by omega⟩ ⟨T.val % 128, by omega⟩))

/-- The latents' gate columns after gelu. -/
theorem v244_apply (b : Fin 8) (s : Fin 4096) (l : Fin 256) :
    val_main_v244 (F := Ideal) x m g w (ix3 b s l) = gelu (row x m g w b ⟨256 + s.val, by omega⟩ ⟨2048 + l.val, by omega⟩) := by
  rw [← v95_apply x m g w]
  generalize hP : val_main_v95 (F := Ideal) x m g w = P
  pointwise [val_main_v244, val_main_v243, val_main_v242, val_main_v241, val_main_v240, val_main_v239, val_main_v238,
    val_main_v237, val_main_v236, val_main_v235, val_main_v234, val_main_v233, val_main_v232, val_main_v231,
    val_main_cst_21, val_main_cst_22, val_main_cst_23, val_main_cst_24]
  rw [hP]
  rfl

/-- The latents' other half after gelu. -/
theorem v258_apply (b : Fin 8) (s : Fin 4096) (l : Fin 256) :
    val_main_v258 (F := Ideal) x m g w (ix3 b s l) = gelu (row x m g w b ⟨256 + s.val, by omega⟩ ⟨2304 + l.val, by omega⟩) := by
  rw [← v95_apply x m g w]
  generalize hP : val_main_v95 (F := Ideal) x m g w = P
  pointwise [val_main_v258, val_main_v257, val_main_v256, val_main_v255, val_main_v254, val_main_v253, val_main_v252,
    val_main_v251, val_main_v250, val_main_v249, val_main_v248, val_main_v247, val_main_v246, val_main_v245,
    val_main_cst_25, val_main_cst_26, val_main_cst_27, val_main_cst_28]
  rw [hP]
  rfl

/-- The same, normed by groups of 64. -/
theorem v273_apply (b : Fin 8) (s : Fin 4096) (h : Fin 4) (e : Fin 64) :
    val_main_v273 (F := Ideal) x m g w gs (ix4 b s h e)
      = unit (half (row x m g w b ⟨256 + s.val, by omega⟩)) (fun l => gs (ix1 l)) ⟨h.val * 64 + e.val, by omega⟩ := by
  pointwise [val_main_v273, val_main_v272, val_main_v271, val_main_v270, val_main_v269, val_main_v268, val_main_v267,
    val_main_v266, val_main_v265, val_main_v264, val_main_v263, val_main_v262, val_main_v261, val_main_v260,
    val_main_v259, val_main_cst_29, val_main_cst_30, val_main_cst_31]
  simp only [v258_apply x m g w]
  unfold unit
  have hm : ∀ q : Fin 64, mate ⟨h.val * 64 + e.val, by omega⟩ q = ⟨h.val * 64 + q.val, by omega⟩ :=
    fun q => Fin.ext (by show 64 * ((h.val * 64 + e.val) / 64) + q.val = h.val * 64 + q.val; omega)
  simp only [hm]
  rfl

/-- The latents' spatial gate. -/
theorem v283_apply (b : Fin 8) (s : Fin 4096) (l : Fin 256) :
    val_main_v283 (F := Ideal) x m g w gs ws bs (ix3 b s l) = gated x m g w gs ws bs b ⟨256 + s.val, by omega⟩ l := by
  generalize hU : val_main_v244 (F := Ideal) x m g w = U
  generalize hG : val_main_v273 (F := Ideal) x m g w gs = G
  pointwise [val_main_v283, val_main_v282, val_main_v281, val_main_v280, val_main_v279, val_main_v278, val_main_v277,
    val_main_v276, val_main_v275, val_main_v274]
  simp only [v244_apply x m g w, v273_apply x m g w gs]
  have hl : (⟨l.val / 64 * 64 + l.val % 64, by omega⟩ : Fin 256) = l := Fin.ext (by show l.val / 64 * 64 + l.val % 64 = l.val; omega)
  have hs : (256 + s.val) % 128 = s.val % 128 := by omega
  have hq : ∀ q : Fin 128, 256 + (s.val / 128 * 128 + q.val) = (256 + s.val) / 128 * 128 + q.val := fun q => by omega
  unfold gated mixed
  simp only [hs, hq]
  simp only [hl]

/-- The context's gate columns after gelu. -/
theorem v191_apply (b : Fin 8) (s : Fin 256) (l : Fin 256) :
    val_main_v191 (F := Ideal) x m g w (ix3 b s l) = gelu (row x m g w b ⟨s.val, by omega⟩ ⟨2048 + l.val, by omega⟩) := by
  rw [← v96_apply x m g w]
  generalize hP : val_main_v96 (F := Ideal) x m g w = P
  pointwise [val_main_v191, val_main_v190, val_main_v189, val_main_v188, val_main_v187, val_main_v186, val_main_v185,
    val_main_v184, val_main_v183, val_main_v182, val_main_v181, val_main_v180, val_main_v179, val_main_v178,
    val_main_cst_10, val_main_cst_11, val_main_cst_12, val_main_cst_13]
  rw [hP]
  rfl

/-- The context's other half after gelu. -/
theorem v205_apply (b : Fin 8) (s : Fin 256) (l : Fin 256) :
    val_main_v205 (F := Ideal) x m g w (ix3 b s l) = gelu (row x m g w b ⟨s.val, by omega⟩ ⟨2304 + l.val, by omega⟩) := by
  rw [← v96_apply x m g w]
  generalize hP : val_main_v96 (F := Ideal) x m g w = P
  pointwise [val_main_v205, val_main_v204, val_main_v203, val_main_v202, val_main_v201, val_main_v200, val_main_v199,
    val_main_v198, val_main_v197, val_main_v196, val_main_v195, val_main_v194, val_main_v193, val_main_v192,
    val_main_cst_14, val_main_cst_15, val_main_cst_16, val_main_cst_17]
  rw [hP]
  rfl

/-- The same, normed by groups of 64. -/
theorem v220_apply (b : Fin 8) (s : Fin 256) (h : Fin 4) (e : Fin 64) :
    val_main_v220 (F := Ideal) x m g w gs (ix4 b s h e)
      = unit (half (row x m g w b ⟨s.val, by omega⟩)) (fun l => gs (ix1 l)) ⟨h.val * 64 + e.val, by omega⟩ := by
  pointwise [val_main_v220, val_main_v219, val_main_v218, val_main_v217, val_main_v216, val_main_v215, val_main_v214,
    val_main_v213, val_main_v212, val_main_v211, val_main_v210, val_main_v209, val_main_v208, val_main_v207,
    val_main_v206, val_main_cst_18, val_main_cst_19, val_main_cst_20]
  simp only [v205_apply x m g w]
  unfold unit
  have hm : ∀ q : Fin 64, mate ⟨h.val * 64 + e.val, by omega⟩ q = ⟨h.val * 64 + q.val, by omega⟩ :=
    fun q => Fin.ext (by show 64 * ((h.val * 64 + e.val) / 64) + q.val = h.val * 64 + q.val; omega)
  simp only [hm]
  rfl

/-- The context's spatial gate. -/
theorem v230_apply (b : Fin 8) (s : Fin 256) (l : Fin 256) :
    val_main_v230 (F := Ideal) x m g w gs ws bs (ix3 b s l) = gated x m g w gs ws bs b ⟨s.val, by omega⟩ l := by
  generalize hU : val_main_v191 (F := Ideal) x m g w = U
  generalize hG : val_main_v220 (F := Ideal) x m g w gs = G
  pointwise [val_main_v230, val_main_v229, val_main_v228, val_main_v227, val_main_v226, val_main_v225, val_main_v224,
    val_main_v223, val_main_v222, val_main_v221]
  simp only [v191_apply x m g w, v220_apply x m g w gs]
  have hl : (⟨l.val / 64 * 64 + l.val % 64, by omega⟩ : Fin 256) = l := Fin.ext (by show l.val / 64 * 64 + l.val % 64 = l.val; omega)
  simp only [hl]
  rfl

/-- The recurrence's gate columns of the latents after gelu. -/
theorem v322_apply (b : Fin 8) (s : Fin 4096) (l : Fin 256) :
    val_main_v322 (F := Ideal) x m g w (ix3 b s l) = gelu (row x m g w b ⟨256 + s.val, by omega⟩ ⟨1792 + l.val, by omega⟩) := by
  rw [← v95_apply x m g w]
  generalize hP : val_main_v95 (F := Ideal) x m g w = P
  pointwise [val_main_v322, val_main_v321, val_main_v320, val_main_v319, val_main_v318, val_main_v317, val_main_v316,
    val_main_v315, val_main_v314, val_main_v313, val_main_v312, val_main_v311, val_main_v310, val_main_v309,
    val_main_cst_36, val_main_cst_37, val_main_cst_38, val_main_cst_39]
  rw [hP]
  rfl

/-- The recurrence's gate columns of the context after gelu. -/
theorem v306_apply (b : Fin 8) (s : Fin 256) (l : Fin 256) :
    val_main_v306 (F := Ideal) x m g w (ix3 b s l) = gelu (row x m g w b ⟨s.val, by omega⟩ ⟨1792 + l.val, by omega⟩) := by
  rw [← v96_apply x m g w]
  generalize hP : val_main_v96 (F := Ideal) x m g w = P
  pointwise [val_main_v306, val_main_v305, val_main_v304, val_main_v303, val_main_v302, val_main_v301, val_main_v300,
    val_main_v299, val_main_v298, val_main_v297, val_main_v296, val_main_v295, val_main_v294, val_main_v293,
    val_main_cst_32, val_main_cst_33, val_main_cst_34, val_main_cst_35]
  rw [hP]
  rfl

/-- The recurrence's input: 256 columns as projected and 256 through the error unit. -/
def recurrent (b : Fin 8) (T : Fin 4352) (j : Fin 512) : EReal :=
  if h : j.val < 256 then row x m g w b T ⟨1536 + j.val, by omega⟩ else gelu (row x m g w b T ⟨1792 + (j.val - 256), by omega⟩)

/-- The recurrence's input as a result. -/
theorem v324_apply (b : Fin 8) (T : Fin 4352) (j : Fin 512) :
    val_main_v324 (F := Ideal) x m g w (ix3 b T j) = recurrent x m g w b T j := by
  generalize hC : val_main_v306 (F := Ideal) x m g w = C
  generalize hL : val_main_v322 (F := Ideal) x m g w = L
  pointwise [val_main_v324, val_main_v323, val_main_v308, val_main_v307, val_main_v292]
  simp only [v96_apply x m g w, v95_apply x m g w, v306_apply x m g w, v322_apply x m g w]
  by_cases h : T.val < 256
  · exact dif_pos h
  · refine (dif_neg h).trans ?_
    have hT : (⟨256 + (T.val - 256), by omega⟩ : Fin 4352) = T := Fin.ext (by dsimp only; omega)
    simp only [hT]
    rfl

/-- The gate as a result. -/
theorem v325_apply (b : Fin 8) (T : Fin 4352) (l : Fin 256) :
    val_main_v325 (F := Ideal) x m g w gs ws bs (ix3 b T l) = gated x m g w gs ws bs b T l := by
  pointwise [val_main_v325, val_main_v284]
  simp only [v230_apply x m g w gs ws bs, v283_apply x m g w gs ws bs]
  by_cases h : T.val < 256
  · exact dif_pos h
  · refine (dif_neg h).trans ?_
    have hT : (⟨256 + (T.val - 256), by omega⟩ : Fin 4352) = T := Fin.ext (by dsimp only; omega)
    simp only [hT]

end Layer.Inproj.Whole

end
-- ==== Proof.InprojTables.lean ====
/-
  The tables that the kernel's host code prepares: the cosines and signed sines of every token, the blocks of ones, the
  mixer's weights side by side and its biases.
-/
module

public import proofs.«01_k».proof.Proof.InprojGate
public import Idealize.ShloMosaic.Lib.StableHlo.ReadAt
public import Idealize.ShloMosaic.Lib.Pipeline.ValueKit
public import proofs.«01_k».proof.Proof.Gen.Kernel3Ideal.Value

@[expose] public section

set_option maxRecDepth 16384

noncomputable section

namespace Layer.Inproj.Tables

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- Running one list of host operations after another. -/
theorem after_append (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- The buffers after the first `n` host operations. -/
abbrev before (n : ℕ) : Valuation τ sig (Elt Ideal) := StableHlo.after (List.take n hostOps0) (fun b => m (c, b))

/-- What the kernel finds, from the buffers after the first `n` operations. -/
theorem entry_eq (n : ℕ) (b : Ref sig .tc) : V m c b = StableHlo.after (List.drop n hostOps0) (before m c n) b := by
  show StableHlo.after hostOps0 _ _ = _
  rw [← after_append, List.take_append_drop]

/-- `k` more operations. -/
theorem before_add (n k : ℕ) (b : Ref sig .tc) :
    before m c (n + k) b = StableHlo.after (List.take k (List.drop n hostOps0)) (before m c n) b := by
  show StableHlo.after (List.take (n + k) hostOps0) _ _ = _
  rw [List.take_add, after_append]

/-- Four tables side by side. -/
def cat4 (a b c d : FVec Ideal S4096x16 .f32) : FVec Ideal S4096x64 .f32 :=
  concatenate S4096x64 1 [⟨S4096x16, a⟩, ⟨S4096x16, b⟩, ⟨S4096x16, c⟩, ⟨S4096x16, d⟩] concatenates_S4096x16_S4096x16_S4096x16_S4096x16_S4096x64_d1

/-- An entry of four tables side by side. -/
theorem cat4_apply (a b c d : FVec Ideal S4096x16 .f32) (s : Fin 4096) (e : Fin 64) :
    cat4 a b c d (ix2 s e) = if e.val < 32 then
        if e.val % 32 < 16 then a (ix2 s ⟨e.val % 16, by omega⟩) else b (ix2 s ⟨e.val % 16, by omega⟩)
      else if e.val % 32 < 16 then c (ix2 s ⟨e.val % 16, by omega⟩) else d (ix2 s ⟨e.val % 16, by omega⟩) := by
  have he := e.isLt
  pointwise [cat4]
  by_cases h1 : e.val < 16
  · refine (dif_pos h1).trans (Eq.symm ?_)
    refine (if_pos (by omega)).trans ((if_pos (by omega)).trans ?_)
    congr 2; exact Fin.ext (by dsimp only; omega)
  by_cases h2 : e.val - 16 < 16
  · refine (dif_neg h1).trans ((dif_pos h2).trans (Eq.symm ?_))
    refine (if_pos (by omega)).trans ((if_neg (by omega)).trans ?_)
    congr 2; exact Fin.ext (by dsimp only; omega)
  by_cases h3 : e.val - 16 - 16 < 16
  · refine (dif_neg h1).trans ((dif_neg h2).trans ((dif_pos h3).trans (Eq.symm ?_)))
    refine (if_neg (by omega)).trans ((if_pos (by omega)).trans ?_)
    congr 2; exact Fin.ext (by dsimp only; omega)
  · refine (dif_neg h1).trans ((dif_neg h2).trans ((dif_neg h3).trans (Eq.symm ?_)))
    refine (if_neg (by omega)).trans ((if_neg (by omega)).trans ?_)
    congr 2; exact Fin.ext (by dsimp only; omega)

/-- The cosines of the rows' angles are the reference's. -/
theorem row_cosines : before m c 31 main_v25 = Cert.Reference3Ideal.Read.val_main_v25 (F := Ideal) := by
  show StableHlo.after (List.take 31 hostOps0) _ _ = _
  simp only [hostOps0, List.take_succ_cons, List.take_zero]
  after_reads_simp
  rfl

/-- The cosines of the columns' angles are the reference's. -/
theorem column_cosines : before m c 31 main_v27 = Cert.Reference3Ideal.Read.val_main_v27 (F := Ideal) := by
  show StableHlo.after (List.take 31 hostOps0) _ _ = _
  simp only [hostOps0, List.take_succ_cons, List.take_zero]
  after_reads_simp
  rfl

/-- The sines of the rows' angles are the reference's. -/
theorem row_sines : before m c 37 main_v26 = Cert.Reference3Ideal.Read.val_main_v26 (F := Ideal) := by
  show StableHlo.after (List.take 37 hostOps0) _ _ = _
  simp only [hostOps0, List.take_succ_cons, List.take_zero]
  after_reads_simp
  rfl

/-- The sines of the columns' angles are the reference's. -/
theorem column_sines : before m c 37 main_v28 = Cert.Reference3Ideal.Read.val_main_v28 (F := Ideal) := by
  show StableHlo.after (List.take 37 hostOps0) _ _ = _
  simp only [hostOps0, List.take_succ_cons, List.take_zero]
  after_reads_simp
  rfl

/-- The negated sines of the rows' angles. -/
theorem row_negated :
    before m c 37 main_v33 = Host.negf (F := Ideal) (φ := .f32) (Cert.Reference3Ideal.Read.val_main_v26 (F := Ideal)) := by
  show StableHlo.after (List.take 37 hostOps0) _ _ = _
  simp only [hostOps0, List.take_succ_cons, List.take_zero]
  after_reads_simp
  rfl

/-- The negated sines of the columns' angles. -/
theorem column_negated :
    before m c 37 main_v34 = Host.negf (F := Ideal) (φ := .f32) (Cert.Reference3Ideal.Read.val_main_v28 (F := Ideal)) := by
  show StableHlo.after (List.take 37 hostOps0) _ _ = _
  simp only [hostOps0, List.take_succ_cons, List.take_zero]
  after_reads_simp
  rfl

/-- The four tables of cosines side by side. -/
theorem joined_cosines : before m c 32 main_v29
    = cat4 (before m c 31 main_v25) (before m c 31 main_v25) (before m c 31 main_v27) (before m c 31 main_v27) := by
  rw [before_add m c 31 1]
  generalize before m c 31 = U
  simp only [hostOps0, List.drop_succ_cons, List.drop_zero, List.take_succ_cons, List.take_zero, StableHlo.after_cons,
    StableHlo.after_nil]
  exact StableHlo.nary4_result ..

/-- The four tables of signed sines side by side. -/
theorem joined_sines : before m c 38 main_v35
    = cat4 (before m c 37 main_v33) (before m c 37 main_v26) (before m c 37 main_v34) (before m c 37 main_v28) := by
  rw [before_add m c 37 1]
  generalize before m c 37 = U
  simp only [hostOps0, List.drop_succ_cons, List.drop_zero, List.take_succ_cons, List.take_zero, StableHlo.after_cons,
    StableHlo.after_nil]
  exact StableHlo.nary4_result ..

/-- The cosines that the kernel is given. -/
theorem cosines_apply (T : Fin 4352) (l : Fin 128) : V m c main_v40 (ix2 T l) = Whole.cosines T l := by
  have hl := l.isLt
  rw [entry_eq m c 32]
  have hU := joined_cosines m c
  rw [row_cosines, column_cosines] at hU
  generalize before m c 32 = U at hU ⊢
  simp only [hostOps0, List.drop_succ_cons, List.drop_zero]
  after_reads_simp
  pointwise
  simp only [hU, cat4_apply]
  have h1 : l.val % 64 % 16 = l.val % 16 := by omega
  unfold Whole.cosines
  simp only [h1, ite_self]

/-- The sines that the kernel is given. -/
theorem sines_apply (T : Fin 4352) (l : Fin 128) : V m c main_v42 (ix2 T l) = Whole.sines T l := by
  have hl := l.isLt
  rw [entry_eq m c 38]
  have hU := joined_sines m c
  rw [row_negated, row_sines, column_negated, column_sines] at hU
  generalize before m c 38 = U at hU ⊢
  simp only [hostOps0, List.drop_succ_cons, List.drop_zero]
  after_reads_simp
  pointwise
  simp only [hU, cat4_apply]
  have h1 : l.val % 64 % 16 = l.val % 16 := by omega
  have h2 : l.val % 64 % 32 = l.val % 32 := by omega
  unfold Whole.sines
  simp only [h1, h2]
  rfl

/-- The ones: one in every block of 64 by 64 on the diagonal. -/
theorem ones_apply (x l : Fin 256) : V m c main_v56 (ix2 x l) = (if x.val / 64 = l.val / 64 then (1 : EReal) else 0) := by
  entry_read
  pointwise
  have hx : x.val / 64 < 4 := by omega
  have hl : l.val / 64 < 4 := by omega
  generalize x.val / 64 = a at hx ⊢
  generalize l.val / 64 = b at hl ⊢
  interval_cases a <;> interval_cases b <;> simp [IntOp.cmpi, IntOp.addi, FloatOps.uitofp]

/-- The spatial weights, group beside group. -/
theorem spatial_apply (r : Fin 128) (l : Fin 512) :
    V m c main_v65 (ix2 r l) = m ((c : Thread nD τ).loc main_arg5) (ix3 ⟨l.val / 128, by omega⟩ r ⟨l.val % 128, by omega⟩) := by
  entry_read
  pointwise

/-- The spatial biases, repeated for each group's columns. -/
theorem bias_apply (r : Fin 128) (l : Fin 256) :
    V m c main_v61 (ix2 r l) = m ((c : Thread nD τ).loc main_arg6) (ix2 ⟨l.val / 64, by omega⟩ r) := by
  entry_read
  pointwise

/-- The norm's gain as the kernel finds it. -/
theorem gain_apply (k : Fin 1024) : V m c main_v62 (ix2 0 k) = m ((c : Thread nD τ).loc main_arg2) (ix1 k) := by
  entry_read
  pointwise

/-- The projection as the kernel finds it. -/
theorem weights_apply (k : Fin 1024) (n : Fin 2560) :
    V m c main_v63 (ix2 k n) = m ((c : Thread nD τ).loc main_arg3) (ix2 k n) := by
  entry_read
  pointwise

/-- The gain of the gate's norm as the kernel finds it. -/
theorem unit_gain_apply (l : Fin 256) : V m c main_v64 (ix2 0 l) = m ((c : Thread nD τ).loc main_arg4) (ix1 l) := by
  entry_read
  pointwise

end Layer.Inproj.Tables

end
-- ==== Proof.InprojBlocks.lean ====
/-
  What the kernel's blocks hold at a grid point: the tokens of a tile, the weights and the tables.
-/
module

public import proofs.«01_k».proof.Proof.InprojKernel
public import proofs.«01_k».proof.Proof.InprojTables
public import Idealize.ShloMosaic.Lib.Pipeline.Covers

@[expose] public section

set_option maxRecDepth 16384

noncomputable section

namespace Layer.Inproj.Value

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- Where each window's block lies at grid point `t = 17 b + i`. -/
theorem idx : ∀ t : Fin cfg0.N,
    win0_0.index t = ![t.val / 17, t.val % 17, 0] ∧ win0_1.index t = ![if t.val % 17 = 0 then 8 else t.val / 17, 0, 0, 0]
    ∧ win0_2.index t = ![0, 0] ∧ win0_3.index t = ![0, 0] ∧ win0_4.index t = ![t.val % 17, 0] ∧ win0_5.index t = ![t.val % 17, 0]
    ∧ win0_6.index t = ![0, 0] ∧ win0_7.index t = ![0, 0] ∧ win0_8.index t = ![0, 0] ∧ win0_9.index t = ![0, 0]
    ∧ win0_10.index t = ![t.val / 17, t.val % 17, 0, 0] ∧ win0_11.index t = ![t.val / 17, t.val % 17, 0]
    ∧ win0_12.index t = ![t.val / 17, t.val % 17, 0, 0] ∧ win0_13.index t = ![t.val / 17, t.val % 17, 0]
    ∧ win0_14.index t = ![t.val / 17, t.val % 17, 0] :=
  (by decide +kernel : ∀ t : Fin grid0.N,
    win0_0.index t = ![t.val / 17, t.val % 17, 0] ∧ win0_1.index t = ![if t.val % 17 = 0 then 8 else t.val / 17, 0, 0, 0]
    ∧ win0_2.index t = ![0, 0] ∧ win0_3.index t = ![0, 0] ∧ win0_4.index t = ![t.val % 17, 0] ∧ win0_5.index t = ![t.val % 17, 0]
    ∧ win0_6.index t = ![0, 0] ∧ win0_7.index t = ![0, 0] ∧ win0_8.index t = ![0, 0] ∧ win0_9.index t = ![0, 0]
    ∧ win0_10.index t = ![t.val / 17, t.val % 17, 0, 0] ∧ win0_11.index t = ![t.val / 17, t.val % 17, 0]
    ∧ win0_12.index t = ![t.val / 17, t.val % 17, 0, 0] ∧ win0_13.index t = ![t.val / 17, t.val % 17, 0]
    ∧ win0_14.index t = ![t.val / 17, t.val % 17, 0])

/-- The stream as the kernel finds it. -/
theorem stream_apply (i : S8x4352x1024.Idx) : V m c main_arg0 i = m ((c : Thread nD τ).loc main_arg0) i := by
  entry_read
  rfl

/-- The modulation as the kernel finds it. -/
theorem modulation_apply (i : S16x6x1x1024.Idx) : V m c main_arg1 i = m ((c : Thread nD τ).loc main_arg1) i := by
  entry_read
  rfl

/-- The cosines' block passes through unchanged. -/
theorem pay4_apply (x : Vec Ideal S256x128 .f32) (r : Fin 256) (l : Fin 128) : k0_pay4 (F := Ideal) x (ix2 r l) = x (ix2 r l) := by
  pointwise [k0_pay4]

/-- The sines' block passes through unchanged. -/
theorem pay5_apply (x : Vec Ideal S256x128 .f32) (r : Fin 256) (l : Fin 128) : k0_pay5 (F := Ideal) x (ix2 r l) = x (ix2 r l) := by
  pointwise [k0_pay5]

/-! Reading a block of any array of a window's type. -/

/-- Row `r` of the stream's block at point `t` is the token's row. -/
theorem read0 (A : S8x4352x1024.Idx → Elt Ideal .f32) (t : Fin cfg0.N) (b : Fin 8) (T : Fin 4352) (r : Fin 256) (k : Fin 1024)
    (hb : b.val = t.val / 17) (hT : T.val = t.val % 17 * 256 + r.val) :
    ((cfg0.win 0).blk t).view.read (Elt Ideal) A (ix3 0 r k) = A (ix3 b T k) := by
  blk_ext [idx t]

/-- The modulation's block at point `t` is row `σ` of the array, the context's or the batch's. -/
theorem read1 (A : S16x6x1x1024.Idx → Elt Ideal .f32) (t : Fin cfg0.N) (σ : Fin 16) (p : Fin 6) (k : Fin 1024)
    (hs : σ.val = if t.val % 17 = 0 then 8 else t.val / 17) :
    ((cfg0.win 1).blk t).view.read (Elt Ideal) A (ix4 0 p 0 k) = A (ix4 σ p 0 k) := by
  blk_ext [idx t]

/-- The scale is the second row of the modulation's block. -/
theorem scale_row (x : Vec Ideal S1x6x1x1024 .f32) (k : Fin 1024) : View.ld x r0_2 (ix4 0 0 0 k) = x (ix4 0 1 0 k) := by
  pointwise

/-- The shift is the first row of the modulation's block. -/
theorem shift_row (x : Vec Ideal S1x6x1x1024 .f32) (k : Fin 1024) : View.ld x r0_3 (ix4 0 0 0 k) = x (ix4 0 0 0 k) := by
  pointwise

/-- The gain's block is the whole array. -/
theorem read2 (A : S1x1024.Idx → Elt Ideal .f32) (t : Fin cfg0.N) (k : Fin 1024) :
    ((cfg0.win 2).blk t).view.read (Elt Ideal) A (ix2 0 k) = A (ix2 0 k) := by
  blk_ext [idx t]

/-- The projection's block is the whole array. -/
theorem read3 (A : S1024x2560.Idx → Elt Ideal .bf16) (t : Fin cfg0.N) (k : Fin 1024) (n : Fin 2560) :
    ((cfg0.win 3).blk t).view.read (Elt Ideal) A (ix2 k n) = A (ix2 k n) := by
  blk_ext [idx t]

/-- Row `r` of the cosines' block at point `t` is the token's. -/
theorem read4 (A : S4352x128.Idx → Elt Ideal .f32) (t : Fin cfg0.N) (T : Fin 4352) (r : Fin 256) (l : Fin 128)
    (hT : T.val = t.val % 17 * 256 + r.val) : ((cfg0.win 4).blk t).view.read (Elt Ideal) A (ix2 r l) = A (ix2 T l) := by
  blk_ext [idx t]

/-- Row `r` of the sines' block at point `t` is the token's. -/
theorem read5 (A : S4352x128.Idx → Elt Ideal .f32) (t : Fin cfg0.N) (T : Fin 4352) (r : Fin 256) (l : Fin 128)
    (hT : T.val = t.val % 17 * 256 + r.val) : ((cfg0.win 5).blk t).view.read (Elt Ideal) A (ix2 r l) = A (ix2 T l) := by
  blk_ext [idx t]

/-- The block of the gate's gain is the whole array. -/
theorem read6 (A : S1x256.Idx → Elt Ideal .f32) (t : Fin cfg0.N) (l : Fin 256) :
    ((cfg0.win 6).blk t).view.read (Elt Ideal) A (ix2 0 l) = A (ix2 0 l) := by
  blk_ext [idx t]

/-- The block of the table of ones is the whole array. -/
theorem read7 (A : S256x256.Idx → Elt Ideal .bf16) (t : Fin cfg0.N) (x l : Fin 256) :
    ((cfg0.win 7).blk t).view.read (Elt Ideal) A (ix2 x l) = A (ix2 x l) := by
  blk_ext [idx t]

/-- The block of the spatial weights is the whole array. -/
theorem read8 (A : S128x512.Idx → Elt Ideal .bf16) (t : Fin cfg0.N) (r : Fin 128) (l : Fin 512) :
    ((cfg0.win 8).blk t).view.read (Elt Ideal) A (ix2 r l) = A (ix2 r l) := by
  blk_ext [idx t]

/-- The block of the spatial biases is the whole array. -/
theorem read9 (A : S128x256.Idx → Elt Ideal .f32) (t : Fin cfg0.N) (r : Fin 128) (l : Fin 256) :
    ((cfg0.win 9).blk t).view.read (Elt Ideal) A (ix2 r l) = A (ix2 r l) := by
  blk_ext [idx t]

/-- The reference's projected row of token `T` of batch `b`, from device `c`'s arguments. -/
abbrev row (b : Fin 8) (T : Fin 4352) : Fin 2560 → EReal :=
  Whole.row (m ((c : Thread nD τ).loc main_arg0)) (m ((c : Thread nD τ).loc main_arg1)) (m ((c : Thread nD τ).loc main_arg2))
    (m ((c : Thread nD τ).loc main_arg3)) b T

/-- The block of ones and zeros at any point is the table of groups of 64. -/
theorem ones_eq (t : Fin cfg0.N) (x l : Fin 256) : iblk m c 7 t (ix2 x l) = (if x.val / 64 = l.val / 64 then (1 : EReal) else 0) :=
  (read7 (V m c main_v56) t x l).trans (Tables.ones_apply m c x l)

/-- The block of the norm's gain. -/
theorem unit_gain_eq (t : Fin cfg0.N) (l : Fin 256) : iblk m c 6 t (ix2 0 l) = m ((c : Thread nD τ).loc main_arg4) (ix1 l) :=
  (read6 (V m c main_v64) t l).trans (Tables.unit_gain_apply m c l)

/-- The block of the spatial weights: the groups lie side by side. -/
theorem spatial_eq (t : Fin cfg0.N) (r : Fin 128) (l : Fin 512) :
    iblk m c 8 t (ix2 r l) = m ((c : Thread nD τ).loc main_arg5) (ix3 ⟨l.val / 128, by omega⟩ r ⟨l.val % 128, by omega⟩) :=
  (read8 (V m c main_v65) t r l).trans (Tables.spatial_apply m c r l)

/-- The block of the spatial biases. -/
theorem bias_eq (t : Fin cfg0.N) (r : Fin 128) (l : Fin 256) :
    iblk m c 9 t (ix2 r l) = m ((c : Thread nD τ).loc main_arg6) (ix2 ⟨l.val / 64, by omega⟩ r) :=
  (read9 (V m c main_v61) t r l).trans (Tables.bias_apply m c r l)

variable (t : Fin cfg0.N) (r : Fin 256) (b : Fin 8) (T : Fin 4352) (hb : b.val = t.val / 17) (hT : T.val = t.val % 17 * 256 + r.val)

include hb hT

/-- Row `r` of the blocks at point `t` is the token. -/
theorem token_eq :
    Block.token (iblk m c 0 t) (View.ld (iblk m c 1 t) r0_2) (View.ld (iblk m c 1 t) r0_3) r
      = Whole.token (m ((c : Thread nD τ).loc main_arg0)) (m ((c : Thread nD τ).loc main_arg1)) b T := by
  have hr := r.isLt
  have hs : (Whole.source b T).val = if t.val % 17 = 0 then 8 else t.val / 17 := by
    show (if T.val < 256 then 8 else b.val) = _
    by_cases h : t.val % 17 = 0
    · rw [if_pos h, if_pos (by omega)]
    · rw [if_neg h, if_neg (by omega), hb]
  unfold Block.token Whole.token
  congr 1 <;> funext k
  · exact (read0 (V m c main_arg0) t b T r k hb hT).trans (stream_apply m c _)
  · exact (shift_row _ k).trans ((read1 (V m c main_arg1) t _ 0 k hs).trans (modulation_apply m c _))
  · exact (scale_row _ k).trans ((read1 (V m c main_arg1) t _ 1 k hs).trans (modulation_apply m c _))

omit hb hT in
/-- The blocks of gain and projection are the arguments. -/
theorem weights_eq :
    Block.weights (iblk m c 2 t) (iblk m c 3 t)
      = Whole.weights (m ((c : Thread nD τ).loc main_arg2)) (m ((c : Thread nD τ).loc main_arg3)) := by
  unfold Block.weights Whole.weights
  congr 1 <;> funext k
  · exact (read2 (V m c main_v62) t k).trans (Tables.gain_apply m c _)
  · funext n
    exact (read3 (V m c main_v63) t k n).trans (Tables.weights_apply m c _ _)

/-- Row `r` of a tile's projection is the token's. -/
theorem row_eq :
    Block.row (k0_pay3 (F := Ideal) (iblk m c 0 t) (iblk m c 2 t) (View.ld (iblk m c 1 t) r0_2) (View.ld (iblk m c 1 t) r0_3)
      (iblk m c 3 t)) r = row m c b T := by
  funext n
  refine (Block.pay3_apply ..).trans ?_
  rw [token_eq m c t r b T hb hT, weights_eq m c t]
  rfl

/-- Row `r` of the cosines' block holds the token's cosines. -/
theorem cosines_eq : Block.tab (k0_pay4 (F := Ideal) (iblk m c 4 t)) r = Whole.cosines T := by
  funext l
  exact (pay4_apply _ r l).trans ((read4 (V m c main_v40) t T r l hT).trans (Tables.cosines_apply m c T l))

/-- Row `r` of the sines' block holds the token's signed sines. -/
theorem sines_eq : Block.tab (k0_pay5 (F := Ideal) (iblk m c 5 t)) r = Whole.sines T := by
  funext l
  exact (pay5_apply _ r l).trans ((read5 (V m c main_v42) t T r l hT).trans (Tables.sines_apply m c T l))

end Layer.Inproj.Value

end
-- ==== Proof.InprojFinite.lean ====
/-
  What the gate's precondition says: the gain, the shifts and scales of the first nine rows and the last 256 columns of the
  projection's weights are real, and with them the gate's second half.
-/
module

public import proofs.«01_k».proof.Proof.InprojRef
public import proofs.«01_k».proof.Proof.AttnFinite
public import proofs.«01_k».proof.Proof.Gen.Pre_gate_finite
public import Idealize.ShloMosaic.Lib.ReduceAll
public import Idealize.ShloMosaic.Lib.WordArith

@[expose] public section

set_option maxRecDepth 16384

noncomputable section

namespace Layer.Inproj.Finite

open Idealize.ShloMosaic Cert.Pre_gate_finite

variable (x : FVec Ideal S8x4352x1024 .f32) (m : FVec Ideal S16x6x1x1024 .f32) (g : FVec Ideal S1024 .f32)
  (w : FVec Ideal S1024x2560 .f32) (gs : FVec Ideal S256 .f32) (ws : FVec Ideal S4x128x128 .f32) (bs : FVec Ideal S4x128 .f32)

/-- What the precondition says of each entry. -/
theorem entries_real (i : S_.Idx) (h : fn (F := Ideal) x m g w gs ws bs i = 1#1) :
    (∀ (a : Fin 9) (b : Fin 2) (k : Fin 1024), ∃ r : ℝ, m (ix4 ⟨a.val, by omega⟩ ⟨b.val, by omega⟩ 0 k) = (r : EReal))
      ∧ (∀ k : Fin 1024, ∃ r : ℝ, g (ix1 k) = (r : EReal))
      ∧ (∀ (k : Fin 1024) (l : Fin 256), ∃ r : ℝ, w (ix2 k ⟨2304 + l.val, by omega⟩) = (r : EReal)) := by
  haveI : Subsingleton S_.Idx := ⟨fun a b => funext fun k => k.elim0⟩
  obtain ⟨h, h2⟩ := IntOp.andi_eq_one.1 h
  obtain ⟨h0, h1⟩ := IntOp.andi_eq_one.1 h
  refine ⟨fun a b k => ?_, fun k => ?_, fun k l => ?_⟩
  · have e := Attn.Finite.real_of_lt (Host.reduce_andi_all _ _ _ _ _ h0 (ix4 a b 0 k))
    dsimp only at e
    rw [show extractStridedSlice S9x2x1x1024 ![0, 0, 0, 0] m Facts.slices_S16x6x1x1024_S9x2x1x1024_0_0_0_0 (ix4 a b 0 k)
      = m (ix4 ⟨a.val, by omega⟩ ⟨b.val, by omega⟩ 0 k) by pointwise []] at e
    exact ⟨_, e⟩
  · exact ⟨_, Attn.Finite.real_of_lt (Host.reduce_andi_all _ _ _ _ _ h1 (ix1 k))⟩
  · have e := Attn.Finite.real_of_lt (Host.reduce_andi_all _ _ _ _ _ h2 (ix2 k l))
    dsimp only at e
    rw [show extractStridedSlice S1024x256 ![0, 2304] w Facts.slices_S1024x2560_S1024x256_0_2304 (ix2 k l)
      = w (ix2 k ⟨2304 + l.val, by omega⟩) by pointwise []] at e
    exact ⟨_, e⟩

/-- The gate's second half is real at every token. -/
theorem half_real (i : S_.Idx) (h : fn (F := Ideal) x m g w gs ws bs i = 1#1) (b : Fin 8) (T : Fin 4352) (l : Fin 256) :
    ∃ r : ℝ, half (Whole.row x m g w b T) l = (r : EReal) := by
  obtain ⟨hm, hg, hw⟩ := entries_real x m g w gs ws bs i h
  have hs : (Whole.source b T).val < 9 := by
    show (if T.val < 256 then 8 else b.val) < 9
    split <;> omega
  obtain ⟨r, hr⟩ := proj_real (Whole.token x m b T) (Whole.weights g w) ⟨2304 + l.val, by omega⟩ hg
    (fun k => hm ⟨_, hs⟩ 0 k) (fun k => hm ⟨_, hs⟩ 1 k) (fun k => hw k l)
  unfold half Whole.row
  rw [hr]
  exact gelu_real r

end Layer.Inproj.Finite

end
-- ==== Proof.InprojValue.lean ====
/-
  The kernel's five result arrays after its run: the reference's terms of the same arguments.
-/
module

public import proofs.«01_k».proof.Proof.InprojBlocks
public import proofs.«01_k».proof.Proof.InprojFinite

@[expose] public section

set_option maxRecDepth 16384

noncomputable section

namespace Layer.Inproj.Value

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The projection of the tile at point `t`. -/
abbrev tile (t : Fin cfg0.N) : FVec Ideal S256x2560 .f32 :=
  k0_pay3 (F := Ideal) (iblk m c 0 t) (iblk m c 2 t) (View.ld (iblk m c 1 t) r0_2) (View.ld (iblk m c 1 t) r0_3) (iblk m c 3 t)

/-- A rotated entry of a tile's row is the reference's. -/
theorem rope_eq (t : Fin cfg0.N) (r : Fin 256) (b : Fin 8) (T : Fin 4352) (hb : b.val = t.val / 17) (hT : T.val = t.val % 17 * 256 + r.val)
    (n : Fin 2560) :
    rope (Block.row (tile m c t) r) (Block.tab (k0_pay4 (F := Ideal) (iblk m c 4 t)) r) (Block.tab (k0_pay5 (F := Ideal) (iblk m c 5 t)) r) n
      = rope (row m c b T) (Whole.cosines T) (Whole.sines T) n := by
  rw [row_eq m c t r b T hb hT, cosines_eq m c t r b T hb hT, sines_eq m c t r b T hb hT]

/-- Two stores side by side. -/
theorem columns (A B : Vec Ideal S1x256x256 .f32) (r : Fin 256) (j : Fin 512) :
    View.canon [⟨r0_9, A⟩, ⟨r0_8, B⟩] (ix3 0 r j)
      = if h : j.val < 256 then B (ix3 0 r ⟨j.val, h⟩) else A (ix3 0 r ⟨j.val - 256, by omega⟩) := by
  have hj := j.isLt
  by_cases h : j.val < 256
  · rw [dif_pos h, View.canon_cons_of_not_mem]
    · rw [show (ix3 0 r j : S1x256x512.Idx) = r0_8.emb (ix3 0 r ⟨j.val, h⟩) by idx_ext, View.canon_cons_emb]
    · intro hm
      obtain ⟨x, hx⟩ := r0_9.exists_idx_of_mem hm
      have h2 : j.val = 256 + 1 * (x 2).val := congrArg (fun y : S1x256x512.Idx => (y 2).val) hx.symm
      omega
  · rw [dif_neg h, show (ix3 0 r j : S1x256x512.Idx) = r0_9.emb (ix3 0 r ⟨j.val - 256, by omega⟩) by idx_ext, View.canon_cons_emb]

/-- Two stores one above the other. -/
theorem rows (A B : Vec Ideal S1x128x256 .bf16) (r l : Fin 256) :
    View.canon [⟨r0_15, A⟩, ⟨r0_14, B⟩] (ix3 0 r l)
      = if h : r.val < 128 then B (ix3 0 ⟨r.val, h⟩ l) else A (ix3 0 ⟨r.val - 128, by omega⟩ l) := by
  have hr := r.isLt
  by_cases h : r.val < 128
  · rw [dif_pos h, View.canon_cons_of_not_mem]
    · rw [show (ix3 0 r l : S1x256x256.Idx) = r0_14.emb (ix3 0 ⟨r.val, h⟩ l) by idx_ext, View.canon_cons_emb]
    · intro hm
      obtain ⟨x, hx⟩ := r0_15.exists_idx_of_mem hm
      have h2 : r.val = 128 + 1 * (x 1).val := congrArg (fun y : S1x256x256.Idx => (y 1).val) hx.symm
      omega
  · rw [dif_neg h, show (ix3 0 r l : S1x256x256.Idx) = r0_15.emb (ix3 0 ⟨r.val - 128, by omega⟩ l) by idx_ext, View.canon_cons_emb]

set_option maxHeartbeats 1000000 in
/-- The queries' array after the run. -/
theorem queries : (dats m 0 c).arrAt 10 cfg0.N = Cert.Reference3Ideal.Read.val_main_v287 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 10 _ ((cfg0.win 10).covers_of_indexMap_surj rfl (by decide) (by decide +kernel)) fun t hf y => ?_
  blk_simp
  rw [after0_10]
  frame_out
  obtain ⟨j, r, rfl⟩ : ∃ (j : Fin 512) (r : Fin 256), y = ix4 (0 : Fin 1) (0 : Fin 1) j r := by
    refine ⟨y 2, y 3, ?_⟩
    idx_ext
  have hN : t.val < 136 := t.isLt
  have hr := r.isLt
  rw [show ((View.whole main_v66_0).slice (win0_10.rect t)).emb (ix4 0 0 j r)
      = ix4 (⟨t.val / 17, by omega⟩ : Fin 8) (⟨t.val % 17, by omega⟩ : Fin 17) j r by
    blk_ext [idx t]]
  refine Eq.trans ?_ (Whole.v287_apply ..).symm
  unfold k0_pay27 k0_pay28 k0_pay29 k0_pay30
  frame_out
  refine (Block.query _ _ _ r j).trans (congrArg (· * _) ?_)
  exact rope_eq m c t r _ _ rfl rfl _

set_option maxHeartbeats 1000000 in
/-- The keys' array after the run. -/
theorem keys : (dats m 0 c).arrAt 11 cfg0.N = Cert.Reference3Ideal.Read.val_main_v288 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 11 _ ((cfg0.win 11).covers_of_indexMap_surj rfl (by decide) (by decide +kernel)) fun t hf y => ?_
  blk_simp
  rw [after0_11]
  frame_out
  obtain ⟨r, j, rfl⟩ : ∃ (r : Fin 256) (j : Fin 512), y = ix3 (0 : Fin 1) r j := by
    refine ⟨y 1, y 2, ?_⟩
    idx_ext
  have hN : t.val < 136 := t.isLt
  have hr := r.isLt
  rw [show ((View.whole main_v66_1).slice (win0_11.rect t)).emb (ix3 0 r j)
      = ix3 (⟨t.val / 17, by omega⟩ : Fin 8) (⟨t.val % 17 * 256 + r.val, by omega⟩ : Fin 4352) j by
    blk_ext [idx t]]
  refine Eq.trans ?_ (Whole.v288_apply ..).symm
  unfold k0_pay27 k0_pay28 k0_pay29 k0_pay30
  frame_out
  refine (Block.key _ _ _ r j).trans ?_
  exact rope_eq m c t r _ _ rfl rfl _

set_option maxHeartbeats 1000000 in
/-- The values' array after the run. -/
theorem values : (dats m 0 c).arrAt 12 cfg0.N = Cert.Reference3Ideal.Read.val_main_v291 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 12 _ ((cfg0.win 12).covers_of_indexMap_surj rfl (by decide) (by decide +kernel)) fun t hf y => ?_
  blk_simp
  rw [after0_12]
  frame_out
  obtain ⟨j, r, rfl⟩ : ∃ (j : Fin 512) (r : Fin 256), y = ix4 (0 : Fin 1) (0 : Fin 1) j r := by
    refine ⟨y 2, y 3, ?_⟩
    idx_ext
  have hN : t.val < 136 := t.isLt
  have hr := r.isLt
  rw [show ((View.whole main_v66_2).slice (win0_12.rect t)).emb (ix4 0 0 j r)
      = ix4 (⟨t.val / 17, by omega⟩ : Fin 8) (⟨t.val % 17, by omega⟩ : Fin 17) j r by
    blk_ext [idx t]]
  refine Eq.trans ?_ (Whole.v291_apply ..).symm
  unfold k0_pay27
  frame_out
  exact (Block.value _ r j).trans (congrFun (row_eq m c t r _ _ rfl rfl) _)

set_option maxHeartbeats 1000000 in
/-- The recurrence's input after the run. -/
theorem recurrents : (dats m 0 c).arrAt 13 cfg0.N = Cert.Reference3Ideal.Read.val_main_v324 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 13 _ ((cfg0.win 13).covers_of_indexMap_surj rfl (by decide) (by decide +kernel)) fun t hf y => ?_
  blk_simp
  rw [after0_13]
  frame_out
  obtain ⟨r, j, rfl⟩ : ∃ (r : Fin 256) (j : Fin 512), y = ix3 (0 : Fin 1) r j := by
    refine ⟨y 1, y 2, ?_⟩
    idx_ext
  have hN : t.val < 136 := t.isLt
  have hr := r.isLt
  rw [show ((View.whole main_v66_3).slice (win0_13.rect t)).emb (ix3 0 r j)
      = ix3 (⟨t.val / 17, by omega⟩ : Fin 8) (⟨t.val % 17 * 256 + r.val, by omega⟩ : Fin 4352) j by
    blk_ext [idx t]]
  refine Eq.trans ?_ (Whole.v324_apply ..).symm
  unfold Whole.recurrent
  rw [columns]
  by_cases h : j.val < 256
  · rw [dif_pos h, dif_pos h]
    unfold k0_pay27
    frame_out
    exact (Block.lru_x _ r ⟨j.val, h⟩).trans (congrFun (row_eq m c t r _ _ rfl rfl) _)
  · rw [dif_neg h, dif_neg h]
    unfold k0_pay27
    frame_out
    exact (Block.lru_gate _ r ⟨j.val - 256, by omega⟩).trans (congrArg gelu (congrFun (row_eq m c t r _ _ rfl rfl) _))

/-- The normed half of a token's row, computed for the token's place in its tile. -/
theorem unit_row (h : Cert.Pre_gate_finite.fn (F := Ideal)
      (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) = fun _ => 1#1)
    (t : Fin cfg0.N) (r : Fin 256) (b : Fin 8) (T : Fin 4352) (hb : b.val = t.val / 17) (hT : T.val = t.val % 17 * 256 + r.val)
    (l : Fin 256) :
    k0_pay22 (F := Ideal) (k0_pay20 (tile m c t)) (k0_pay21 (tile m c t)) (iblk m c 7 t) (iblk m c 7 t) (iblk m c 6 t) (ix2 r l)
      = unit (half (row m c b T)) (fun l => m ((c : Thread nD τ).loc main_arg4) (ix1 l)) l := by
  have hr := row_eq m c t r b T hb hT
  rw [Block.unit_apply (tile m c t) (iblk m c 7 t) (iblk m c 6 t) (ones_eq m c t) r (fun x => by
    rw [hr]
    exact Finite.half_real _ _ _ _ _ _ _ ix0 (congrFun h ix0) b T x), hr]
  exact congrArg (fun g => unit (half (row m c b T)) g l) (funext fun l => unit_gain_eq m c t l)

/-- Equal parts give an equal entry of the gate. -/
theorem mixed_congr {u u' b b' : EReal} {v v' w w' : Fin 128 → EReal} (hu : u = u') (hv : ∀ q, v q = v' q) (hw : ∀ q, w q = w' q)
    (hb : b = b') : mixed u v w b = mixed u' v' w' b' := by
  rw [hu, hb, funext hv, funext hw]

/-- The weights' entry that the gate reads in the kernel's table is the one of its group. -/
theorem weight_eq (t : Fin cfg0.N) (r : Fin 128) (l : Fin 256) (q k : Fin 128) (hk : k = r) :
    iblk m c 8 t (ix2 r ⟨128 * (l.val / 64) + q.val, by omega⟩)
      = m ((c : Thread nD τ).loc main_arg5) (ix3 ⟨l.val / 64, by omega⟩ k q) := by
  subst hk
  refine (spatial_eq m c t k ⟨128 * (l.val / 64) + q.val, by omega⟩).trans (congrArg _ ?_)
  have hq := q.isLt
  have h1 : (⟨(128 * (l.val / 64) + q.val) / 128, by omega⟩ : Fin 4) = ⟨l.val / 64, by omega⟩ := Fin.ext (by show _ / _ = _ / _; omega)
  have h2 : (⟨(128 * (l.val / 64) + q.val) % 128, by omega⟩ : Fin 128) = q := Fin.ext (by show _ % _ = _; omega)
  rw [h1, h2]

set_option maxHeartbeats 1000000 in
/-- The gate's array after the run, on a real gain, real shifts and scales and real weights of its columns. -/
theorem gates (h : Cert.Pre_gate_finite.fn (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) = fun _ => 1#1) :
    (dats m 0 c).arrAt 14 cfg0.N = Cert.Reference3Ideal.Read.val_main_v325 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  refine (dats m 0 c).arrAt_eq_of_covers 14 _ ((cfg0.win 14).covers_of_indexMap_surj rfl (by decide) (by decide +kernel)) fun t hf y => ?_
  blk_simp
  rw [after0_14]
  frame_out
  obtain ⟨r, j, rfl⟩ : ∃ (r : Fin 256) (j : Fin 256), y = ix3 (0 : Fin 1) r j := by
    refine ⟨y 1, y 2, ?_⟩
    idx_ext
  have hN : t.val < 136 := t.isLt
  have hr := r.isLt
  rw [show ((View.whole main_v66_4).slice (win0_14.rect t)).emb (ix3 0 r j)
      = ix3 (⟨t.val / 17, by omega⟩ : Fin 8) (⟨t.val % 17 * 256 + r.val, by omega⟩ : Fin 4352) j by
    blk_ext [idx t]]
  refine Eq.trans ?_ (Whole.v325_apply ..).symm
  rw [rows]
  unfold k0_pay35 k0_pay34 k0_pay33 k0_pay32 k0_pay31 k0_pay27
  frame_out
  by_cases hlo : r.val < 128
  · refine (dif_pos hlo).trans ?_
    refine (Block.gate_lo (k0_pay19 (tile m c t)) (k0_pay22 (k0_pay20 (tile m c t)) (k0_pay21 (tile m c t))
      (iblk m c 7 t) (iblk m c 7 t) (iblk m c 6 t)) (iblk m c 8 t) (iblk m c 9 t) ⟨r.val, hlo⟩ j).trans ?_
    refine mixed_congr ?_ (fun q => ?_) (fun q => ?_) ?_
    · refine (Block.pay19_apply (tile m c t) _ j).trans (congrArg gelu (congrFun (row_eq m c t _ _ _ rfl ?_) _))
      show t.val % 17 * 256 + r.val = t.val % 17 * 256 + r.val
      omega
    · refine unit_row m c h t _ _ _ rfl ?_ j
      show (t.val % 17 * 256 + r.val) / 128 * 128 + q.val = t.val % 17 * 256 + q.val
      omega
    · refine weight_eq m c t _ j q _ (Fin.ext ?_)
      show (t.val % 17 * 256 + r.val) % 128 = r.val
      omega
    · refine (bias_eq m c t _ j).trans (congrArg (fun k => m ((c : Thread nD τ).loc main_arg6) (ix2 ⟨j.val / 64, by omega⟩ k)) (Fin.ext ?_))
      show r.val = (t.val % 17 * 256 + r.val) % 128
      omega
  · refine (dif_neg hlo).trans ?_
    refine (Block.gate_hi (k0_pay19 (tile m c t)) (k0_pay22 (k0_pay20 (tile m c t)) (k0_pay21 (tile m c t))
      (iblk m c 7 t) (iblk m c 7 t) (iblk m c 6 t)) (iblk m c 8 t) (iblk m c 9 t) ⟨r.val - 128, by omega⟩ j).trans ?_
    refine mixed_congr ?_ (fun q => ?_) (fun q => ?_) ?_
    · refine (Block.pay19_apply (tile m c t) _ j).trans (congrArg gelu (congrFun (row_eq m c t _ _ _ rfl ?_) _))
      show t.val % 17 * 256 + r.val = t.val % 17 * 256 + (128 + (r.val - 128))
      omega
    · refine unit_row m c h t _ _ _ rfl ?_ j
      show (t.val % 17 * 256 + r.val) / 128 * 128 + q.val = t.val % 17 * 256 + (128 + q.val)
      omega
    · refine weight_eq m c t _ j q _ (Fin.ext ?_)
      show (t.val % 17 * 256 + r.val) % 128 = r.val - 128
      omega
    · refine (bias_eq m c t _ j).trans (congrArg (fun k => m ((c : Thread nD τ).loc main_arg6) (ix2 ⟨j.val / 64, by omega⟩ k)) (Fin.ext ?_))
      show r.val - 128 = (t.val % 17 * 256 + r.val) % 128
      omega

end Layer.Inproj.Value

end
-- ==== Proof.AdaValue.lean ====
/-
  The modulation: the kernel's result array and the reference's term hold the same entries, `silu` of a conditioning row
  times a layer's weights, biased.
-/
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Layer.Ada

open Idealize.ShloMosaic Idealize.ShloMosaic.TcCoe Idealize.SL.Sem

/-- One entry of the modulation, from a conditioning row `x`, a column `w` of the weights and a bias. -/
def entry (x w : Fin 1024 → EReal) (b : EReal) : EReal := ∑ k, x k * Ideal.logistic (x k) * w k + b

section Reference

open Cert.Reference4Ideal Cert.Reference4Ideal.Gen Cert.Reference4Ideal.Read

variable (x : FVec Ideal S16x1024 .f32) (w : FVec Ideal S2x1024x6144 .f32) (b : FVec Ideal S2x6144 .f32)

/-- The reference's first layer. -/
theorem first (r : Fin 16) (n : Fin 6144) :
    val_main_v8 (F := Ideal) x w b (ix2 r n) = entry (fun k => x (ix2 r k)) (fun k => w (ix3 0 k n)) (b (ix2 0 n)) := by
  pointwise [val_main_v8, val_main_v7, val_main_v6, val_main_v5, val_main_v4, val_main_v3, val_main_v2, val_main_v1, val_main_v0,
    val_main_call0_v5, val_main_call0_v4, val_main_call0_cst_0, val_main_call0_v3, val_main_call0_v2, val_main_call0_cst,
    val_main_call0_v1, val_main_call0_v0, entry]
  rfl

/-- The reference's second layer. -/
theorem second (r : Fin 16) (n : Fin 6144) :
    val_main_v17 (F := Ideal) x w b (ix2 r n) = entry (fun k => x (ix2 r k)) (fun k => w (ix3 1 k n)) (b (ix2 1 n)) := by
  pointwise [val_main_v17, val_main_v16, val_main_v15, val_main_v14, val_main_v13, val_main_v12, val_main_v11, val_main_v10,
    val_main_v9, val_main_call1_v5, val_main_call1_v4, val_main_call1_cst_0, val_main_call1_v3, val_main_call1_v2,
    val_main_call1_cst, val_main_call1_v1, val_main_call1_v0, entry]
  rfl

/-- The reference's result. -/
theorem v20_apply (l : Fin 2) (r : Fin 16) (n : Fin 6144) :
    val_main_v20 (F := Ideal) x w b (ix3 l r n) = entry (fun k => x (ix2 r k)) (fun k => w (ix3 l k n)) (b (ix2 l n)) := by
  pointwise [val_main_v20, val_main_v19, val_main_v18]
  by_cases h : l.val < 1
  · obtain rfl : l = 0 := Fin.ext (by show l.val = 0; omega)
    exact (dif_pos h).trans (first x w b r n)
  · obtain rfl : l = 1 := Fin.ext (by show l.val = 1; omega)
    exact (dif_neg h).trans (second x w b r n)

end Reference

open Cert.Kernel4Ideal Cert.Kernel4Ideal.Gen

/-- What the body stores. -/
theorem pay1_apply (x : Vec Ideal S16x1024 .f32) (w : Vec Ideal S1x1024x1536 .f32) (b : Vec Ideal S1x1x1536 .f32) (r : Fin 16)
    (n : Fin 1536) :
    k0_pay1 (F := Ideal) x w b (ix3 0 r n) = entry (fun k => x (ix2 r k)) (fun k => w (ix3 0 k n)) (b (ix3 0 0 n)) := by
  pointwise [k0_pay1, entry]

variable (m : (ℓ : Loc nD τ sig) → Buf (Elt Ideal) ℓ) (c : Dev nD)

/-- Where each window's block lies at grid point `t = 4 l + n`. -/
theorem idx : ∀ t : Fin cfg0.N,
    win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N,
    win0_0.index t = ![0, 0] ∧ win0_1.index t = ![t.val / 4, 0, t.val % 4] ∧ win0_2.index t = ![t.val / 4, 0, t.val % 4]
    ∧ win0_3.index t = ![t.val / 4, 0, t.val % 4])

/-- The bias as the kernel finds it. -/
theorem bias_apply (l : Fin 2) (n : Fin 6144) : V m c main_v0 (ix3 l 0 n) = m ((c : Thread nD τ).loc main_arg2) (ix2 l n) := by
  entry_read
  pointwise

/-- The conditioning rows' block at any point is the whole array. -/
theorem read0 (A : S16x1024.Idx → Elt Ideal .f32) (t : Fin cfg0.N) (r : Fin 16) (k : Fin 1024) :
    ((cfg0.win 0).blk t).view.read (Elt Ideal) A (ix2 r k) = A (ix2 r k) := by
  blk_ext [idx t]

/-- Column `n` of the weights' block at point `t` is the layer's column `d`. -/
theorem read1 (A : S2x1024x6144.Idx → Elt Ideal .f32) (t : Fin cfg0.N) (l : Fin 2) (k : Fin 1024) (n : Fin 1536) (d : Fin 6144)
    (hl : l.val = t.val / 4) (hd : d.val = t.val % 4 * 1536 + n.val) :
    ((cfg0.win 1).blk t).view.read (Elt Ideal) A (ix3 0 k n) = A (ix3 l k d) := by
  blk_ext [idx t]

/-- Entry `n` of the biases' block at point `t` is the layer's entry `d`. -/
theorem read2 (A : S2x1x6144.Idx → Elt Ideal .f32) (t : Fin cfg0.N) (l : Fin 2) (n : Fin 1536) (d : Fin 6144)
    (hl : l.val = t.val / 4) (hd : d.val = t.val % 4 * 1536 + n.val) :
    ((cfg0.win 2).blk t).view.read (Elt Ideal) A (ix3 0 0 n) = A (ix3 l 0 d) := by
  blk_ext [idx t]

/-- The conditioning rows as the kernel finds them. -/
theorem rows_apply (i : S16x1024.Idx) : V m c main_arg0 i = m ((c : Thread nD τ).loc main_arg0) i := by
  entry_read
  rfl

/-- The weights as the kernel finds them. -/
theorem weights_apply (i : S2x1024x6144.Idx) : V m c main_arg1 i = m ((c : Thread nD τ).loc main_arg1) i := by
  entry_read
  rfl

/-- The modulation's array after the run. -/
theorem final : (dats m 0 c).arrAt 3 cfg0.N = Cert.Reference4Ideal.Read.val_main_v20 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, n, rfl⟩ : ∃ (r : Fin 16) (n : Fin 1536), y = ix3 (0 : Fin 1) r n := by
    refine ⟨y 1, y 2, ?_⟩
    idx_ext
  have hN : t.val < 8 := t.isLt
  have hn := n.isLt
  rw [show ((View.whole main_v1).slice (win0_3.rect t)).emb (ix3 0 r n)
      = ix3 (⟨t.val / 4, by omega⟩ : Fin 2) r (⟨t.val % 4 * 1536 + n.val, by omega⟩ : Fin 6144) by
    blk_ext [idx t]]
  have hl : (⟨t.val / 4, by omega⟩ : Fin 2).val = t.val / 4 := rfl
  have hd : (⟨t.val % 4 * 1536 + n.val, by omega⟩ : Fin 6144).val = t.val % 4 * 1536 + n.val := rfl
  refine (pay1_apply (iblk m c 0 t) (iblk m c 1 t) (iblk m c 2 t) r n).trans (Eq.trans ?_ (v20_apply ..).symm)
  unfold entry
  refine congrArg₂ (· + ·) (Finset.sum_congr rfl fun k _ => ?_) ?_
  · have hx := (read0 (V m c main_arg0) t r k).trans (rows_apply m c _)
    have hw := (read1 (V m c main_arg1) t _ k n _ hl hd).trans (weights_apply m c _)
    exact congrArg₂ (fun x w => x * Ideal.logistic x * w) hx hw
  · exact (read2 (V m c main_v0) t _ n _ hl hd).trans (bias_apply m c _ _)

end Layer.Ada

end
-- ==== Proof.FirstValue.lean ====
/-
  The first layer's output projection with the network, context and latents, without the final norm: the kernel's result
  array after its run is the reference's term of the same arguments. The token function is FfnSpec's `last`.
-/
module

public import proofs.«01_k».proof.Proof.FfnSpec
public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

namespace Layer.First

open Layer.Ffn

/-! What one block of the kernel computes. -/

namespace Block

open Idealize.ShloMosaic Cert.Kernel5Ideal Cert.Kernel5Ideal.Gen

variable (ya : Vec Ideal S1x256x512 .bf16) (yr ys : Vec Ideal S1x256x256 .bf16) (x : Vec Ideal S1x256x1024 .f32)
  (m2 m3 m4 m5 : Vec Ideal S1x1x1x1024 .f32) (g2 gf : Vec Ideal S1x1024 .f32) (wo : Vec Ideal S1024x1024 .bf16)
  (wg wu : Vec Ideal S1024x2816 .bf16) (wd : Vec Ideal S2816x1024 .bf16)

/-- Row `r` of the loads as a token, with the modulation rows 2 to 5 of its source. -/
def token (r : Fin 256) : Token where
  ya k := ya (ix3 0 r k)
  yr k := yr (ix3 0 r k)
  ys k := ys (ix3 0 r k)
  x k := x (ix3 0 r k)
  og k := m2 (ix4 0 0 0 k)
  shift k := m3 (ix4 0 0 0 k)
  scale k := m4 (ix4 0 0 0 k)
  fg k := m5 (ix4 0 0 0 k)

/-- The weights as loaded (the final gain is not used). -/
def weights : Weights where
  g2 k := g2 (ix2 0 k)
  gf k := gf (ix2 0 k)
  wo k d := wo (ix2 k d)
  wg k d := wg (ix2 k d)
  wu k d := wu (ix2 k d)
  wd k d := wd (ix2 k d)

/-- The kernel's stream after the output projection. -/
theorem pay2_apply (r : Fin 256) (d : Fin 1024) :
    k0_pay2 (F := Ideal) ya yr ys x m2 wo (ix2 r d)
      = mid (token ya yr ys x m2 m3 m4 m5 r) (weights g2 gf wo wg wu wd) d := by
  pointwise [k0_pay2, mid, token, weights, cat]

/-- The same, normed and scaled by the gain. -/
theorem pay3_apply (r : Fin 256) (d : Fin 1024) :
    k0_pay3 (F := Ideal) ya yr ys x m2 wo g2 (ix2 r d)
      = normed (token ya yr ys x m2 m3 m4 m5 r) (weights g2 gf wo wg wu wd) d := by
  pointwise [k0_pay3]
  simp only [pay2_apply ya yr ys x m2 m3 m4 m5 g2 gf wo wg wu wd]
  rfl

/-- The stored block: the stream after the network, row by row. -/
theorem store_apply (r : Fin 256) (d : Fin 1024) :
    k0_pay1 (F := Ideal) (k0_pay2 ya yr ys x m2 wo) (k0_pay3 ya yr ys x m2 wo g2) m4 m3 wg wu m5 wd (ix3 0 r d)
      = last (token ya yr ys x m2 m3 m4 m5 r) (weights g2 gf wo wg wu wd) d := by
  pointwise [k0_pay1]
  simp only [pay2_apply ya yr ys x m2 m3 m4 m5 g2 gf wo wg wu wd, pay3_apply ya yr ys x m2 m3 m4 m5 g2 gf wo wg wu wd]
  rfl

end Block

/-! What the reference computes. -/

namespace Whole

open Idealize.ShloMosaic Cert.Reference5Ideal Cert.Reference5Ideal.Gen Cert.Reference5Ideal.Read

variable (ya : FVec Ideal S8x4352x512 .bf16) (yr ys : FVec Ideal S8x4352x256 .bf16) (x : FVec Ideal S8x4352x1024 .f32)
  (m : FVec Ideal S16x6x1x1024 .f32) (g2 gf : FVec Ideal S1x1024 .f32) (wo : FVec Ideal S1024x1024 .bf16)
  (wg wu : FVec Ideal S1024x2816 .bf16) (wd : FVec Ideal S2816x1024 .bf16)

/-- Token `T` of batch `b` under row `σ` of the modulation. -/
def token (σ : Fin 16) (b : Fin 8) (T : Fin 4352) : Token where
  ya k := ya (ix3 b T k)
  yr k := yr (ix3 b T k)
  ys k := ys (ix3 b T k)
  x k := x (ix3 b T k)
  og k := m (ix4 σ 2 0 k)
  shift k := m (ix4 σ 3 0 k)
  scale k := m (ix4 σ 4 0 k)
  fg k := m (ix4 σ 5 0 k)

/-- The row of the modulation that a token takes: the context's for the first 256 tokens, else the batch's. -/
def source (b : Fin 8) (T : Fin 4352) : Fin 16 := if T.val < 256 then 8 else ⟨b.val, by omega⟩

/-- The weights as arrays (the final gain is not used). -/
def weights : Weights where
  g2 k := g2 (ix2 0 k)
  gf k := gf (ix2 0 k)
  wo k d := wo (ix2 k d)
  wg k d := wg (ix2 k d)
  wu k d := wu (ix2 k d)
  wd k d := wd (ix2 k d)

/-- The latents' stream after the output projection. -/
theorem v38_apply (b : Fin 8) (s : Fin 4096) (d : Fin 1024) :
    val_main_v38 (F := Ideal) ya yr ys x m wo (ix3 b s d)
      = mid (token ya yr ys x m ⟨b.val, by omega⟩ b ⟨256 + s.val, by omega⟩) (weights g2 gf wo wg wu wd) d := by
  pointwise [val_main_v38, val_main_v37, val_main_v36, val_main_v35, val_main_v34, val_main_v9, val_main_v15, val_main_v14, val_main_v7, val_main_v6, val_main_v5, val_main_v4, val_main_v0, mid, token, weights, cat]

/-- The same, normed and scaled by the gain. -/
theorem v52_apply (b : Fin 8) (s : Fin 4096) (d : Fin 1024) :
    val_main_v52 (F := Ideal) ya yr ys x m g2 wo (ix3 b s d)
      = normed (token ya yr ys x m ⟨b.val, by omega⟩ b ⟨256 + s.val, by omega⟩) (weights g2 gf wo wg wu wd) d := by
  pointwise [val_main_v52, val_main_v51, val_main_v50, val_main_v49, val_main_v48, val_main_v47, val_main_v46, val_main_v45, val_main_cst_1, val_main_v44, val_main_v43, val_main_cst_0, val_main_v42, val_main_v41, val_main_cst, val_main_v40, val_main_v39]
  simp only [v38_apply ya yr ys x m g2 gf wo wg wu wd]
  rfl

/-- The latents' modulated row that enters the network. -/
theorem v58_apply (b : Fin 8) (s : Fin 4096) (d : Fin 1024) :
    val_main_v58 (F := Ideal) ya yr ys x m g2 wo (ix3 b s d)
      = hidden (token ya yr ys x m ⟨b.val, by omega⟩ b ⟨256 + s.val, by omega⟩) (weights g2 gf wo wg wu wd) d := by
  pointwise [val_main_v58, val_main_v57, val_main_v56, val_main_v55, val_main_v54, val_main_v53, val_main_cst_2, val_main_v19, val_main_v18, val_main_v17, val_main_v16]
  simp only [v52_apply ya yr ys x m g2 gf wo wg wu wd]
  rfl

/-- The network's gate, of the latents' rows. -/
theorem v59_apply (b : Fin 8) (s : Fin 4096) (e : Fin 2816) :
    val_main_v59 (F := Ideal) ya yr ys x m g2 wo wg (ix3 b s e)
      = gate (token ya yr ys x m ⟨b.val, by omega⟩ b ⟨256 + s.val, by omega⟩) (weights g2 gf wo wg wu wd) e := by
  pointwise [val_main_v59, val_main_v1]
  simp only [v58_apply ya yr ys x m g2 gf wo wg wu wd]
  rfl

/-- The network's inner row, of the latents' rows. -/
theorem v62_apply (b : Fin 8) (s : Fin 4096) (e : Fin 2816) :
    val_main_v62 (F := Ideal) ya yr ys x m g2 wo wg wu (ix3 b s e)
      = inner (token ya yr ys x m ⟨b.val, by omega⟩ b ⟨256 + s.val, by omega⟩) (weights g2 gf wo wg wu wd) e := by
  pointwise [val_main_v62, val_main_v61, val_main_v60, val_main_call0_v5, val_main_call0_v4, val_main_call0_cst_0, val_main_call0_v3, val_main_call0_v2, val_main_call0_cst, val_main_call0_v1, val_main_call0_v0, val_main_v2]
  simp only [v58_apply ya yr ys x m g2 gf wo wg wu wd, v59_apply ya yr ys x m g2 gf wo wg wu wd]
  rfl

/-- The latents' stream after the network. -/
theorem v66_apply (b : Fin 8) (s : Fin 4096) (d : Fin 1024) :
    val_main_v66 (F := Ideal) ya yr ys x m g2 wo wg wu wd (ix3 b s d)
      = last (token ya yr ys x m ⟨b.val, by omega⟩ b ⟨256 + s.val, by omega⟩) (weights g2 gf wo wg wu wd) d := by
  pointwise [val_main_v66, val_main_v65, val_main_v64, val_main_v63, val_main_v21, val_main_v20, val_main_v3]
  simp only [v38_apply ya yr ys x m g2 gf wo wg wu wd, v62_apply ya yr ys x m g2 gf wo wg wu wd]
  rfl

/-- The context's stream after the output projection. -/
theorem v72_apply (b : Fin 8) (s : Fin 256) (d : Fin 1024) :
    val_main_v72 (F := Ideal) ya yr ys x m wo (ix3 b s d)
      = mid (token ya yr ys x m 8 b ⟨s.val, by omega⟩) (weights g2 gf wo wg wu wd) d := by
  pointwise [val_main_v72, val_main_v71, val_main_v70, val_main_v69, val_main_v68, val_main_v67, val_main_v8, val_main_v27, val_main_v26, val_main_v7, val_main_v6, val_main_v5, val_main_v4, val_main_v0, mid, token, weights, cat]

/-- The same, normed and scaled by the gain. -/
theorem v86_apply (b : Fin 8) (s : Fin 256) (d : Fin 1024) :
    val_main_v86 (F := Ideal) ya yr ys x m g2 wo (ix3 b s d)
      = normed (token ya yr ys x m 8 b ⟨s.val, by omega⟩) (weights g2 gf wo wg wu wd) d := by
  pointwise [val_main_v86, val_main_v85, val_main_v84, val_main_v83, val_main_v82, val_main_v81, val_main_v80, val_main_v79, val_main_cst_5, val_main_v78, val_main_v77, val_main_cst_4, val_main_v76, val_main_v75, val_main_cst_3, val_main_v74, val_main_v73]
  simp only [v72_apply ya yr ys x m g2 gf wo wg wu wd]
  rfl

/-- The context's modulated row that enters the network. -/
theorem v94_apply (b : Fin 8) (s : Fin 256) (d : Fin 1024) :
    val_main_v94 (F := Ideal) ya yr ys x m g2 wo (ix3 b s d)
      = hidden (token ya yr ys x m 8 b ⟨s.val, by omega⟩) (weights g2 gf wo wg wu wd) d := by
  pointwise [val_main_v94, val_main_v93, val_main_v92, val_main_v91, val_main_v90, val_main_v89, val_main_v88, val_main_v87, val_main_cst_6, val_main_v31, val_main_v30, val_main_v29, val_main_v28]
  simp only [v86_apply ya yr ys x m g2 gf wo wg wu wd]
  rfl

/-- The network's gate, of the context's rows. -/
theorem v95_apply (b : Fin 8) (s : Fin 256) (e : Fin 2816) :
    val_main_v95 (F := Ideal) ya yr ys x m g2 wo wg (ix3 b s e)
      = gate (token ya yr ys x m 8 b ⟨s.val, by omega⟩) (weights g2 gf wo wg wu wd) e := by
  pointwise [val_main_v95, val_main_v1]
  simp only [v94_apply ya yr ys x m g2 gf wo wg wu wd]
  rfl

/-- The network's inner row, of the context's rows. -/
theorem v98_apply (b : Fin 8) (s : Fin 256) (e : Fin 2816) :
    val_main_v98 (F := Ideal) ya yr ys x m g2 wo wg wu (ix3 b s e)
      = inner (token ya yr ys x m 8 b ⟨s.val, by omega⟩) (weights g2 gf wo wg wu wd) e := by
  pointwise [val_main_v98, val_main_v97, val_main_v96, val_main_call1_v5, val_main_call1_v4, val_main_call1_cst_0, val_main_call1_v3, val_main_call1_v2, val_main_call1_cst, val_main_call1_v1, val_main_call1_v0, val_main_v2]
  simp only [v94_apply ya yr ys x m g2 gf wo wg wu wd, v95_apply ya yr ys x m g2 gf wo wg wu wd]
  rfl

/-- The context's stream after the network. -/
theorem v103_apply (b : Fin 8) (s : Fin 256) (d : Fin 1024) :
    val_main_v103 (F := Ideal) ya yr ys x m g2 wo wg wu wd (ix3 b s d)
      = last (token ya yr ys x m 8 b ⟨s.val, by omega⟩) (weights g2 gf wo wg wu wd) d := by
  pointwise [val_main_v103, val_main_v102, val_main_v101, val_main_v100, val_main_v99, val_main_v33, val_main_v32, val_main_v3]
  simp only [v72_apply ya yr ys x m g2 gf wo wg wu wd, v98_apply ya yr ys x m g2 gf wo wg wu wd]
  rfl

/-- The reference's result, token by token. -/
theorem v104_apply (b : Fin 8) (T : Fin 4352) (d : Fin 1024) :
    val_main_v104 (F := Ideal) ya yr ys x m g2 wo wg wu wd (ix3 b T d)
      = last (token ya yr ys x m (source b T) b T) (weights g2 gf wo wg wu wd) d := by
  by_cases h : T.val < 256
  · rw [show source b T = 8 from if_pos h]
    refine Eq.trans ?_ (v103_apply ya yr ys x m g2 gf wo wg wu wd b ⟨T.val, h⟩ d)
    generalize hL : val_main_v66 (F := Ideal) ya yr ys x m g2 wo wg wu wd = L
    generalize hC : val_main_v103 (F := Ideal) ya yr ys x m g2 wo wg wu wd = C
    pointwise [val_main_v104, hL, hC, h]
  · rw [show source b T = ⟨b.val, by omega⟩ from if_neg h]
    have e : (⟨256 + (T.val - 256), by omega⟩ : Fin 4352) = T := Fin.ext (by simp only []; omega)
    refine Eq.trans ?_ ((v66_apply ya yr ys x m g2 gf wo wg wu wd b ⟨T.val - 256, by omega⟩ d).trans
      (congrArg (fun t => last (token ya yr ys x m ⟨b.val, by omega⟩ b t) (weights g2 gf wo wg wu wd) d) e))
    generalize hL : val_main_v66 (F := Ideal) ya yr ys x m g2 wo wg wu wd = L
    generalize hC : val_main_v103 (F := Ideal) ya yr ys x m g2 wo wg wu wd = C
    pointwise [val_main_v104, hL, hC, h]

end Whole

/-! The result array. -/

open Idealize.ShloMosaic Idealize.ShloMosaic.TcCoe Idealize.SL.Sem
open Cert.Kernel5Ideal Cert.Kernel5Ideal.Gen

variable (m : (ℓ : Loc nD τ sig) → Buf (Elt Ideal) ℓ) (c : Dev nD)

/-- Where each window's block lies at grid point `t = 17 b + i`. -/
theorem idx : ∀ t : Fin cfg0.N,
    win0_0.index t = ![t.val / 17, t.val % 17, 0] ∧ win0_1.index t = ![t.val / 17, t.val % 17, 0] ∧ win0_2.index t = ![t.val / 17, t.val % 17, 0]
    ∧ win0_3.index t = ![t.val / 17, t.val % 17, 0] ∧ win0_4.index t = ![if t.val % 17 = 0 then 8 else t.val / 17, 0, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val / 17, t.val % 17, 0] :=
  (by decide +kernel : ∀ t : Fin grid0.N,
    win0_0.index t = ![t.val / 17, t.val % 17, 0] ∧ win0_1.index t = ![t.val / 17, t.val % 17, 0] ∧ win0_2.index t = ![t.val / 17, t.val % 17, 0]
    ∧ win0_3.index t = ![t.val / 17, t.val % 17, 0] ∧ win0_4.index t = ![if t.val % 17 = 0 then 8 else t.val / 17, 0, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val / 17, t.val % 17, 0])

/-- The reference's term of device `c`'s arguments. -/
abbrev result : FVec Ideal Cert.Reference5Ideal.S8x4352x1024 .f32 :=
  Cert.Reference5Ideal.Read.val_main_v104 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg7)) (m ((c : Thread nD τ).loc main_arg8)) (m ((c : Thread nD τ).loc main_arg9))
    (m ((c : Thread nD τ).loc main_arg10))

/-- Row `r` of the blocks at point `t` is token `256 i + r` of batch `b`, under its row of the modulation. -/
theorem token_eq (t : Fin cfg0.N) (r : Fin 256) (σ : Fin 16) (b : Fin 8) (T : Fin 4352)
    (hσ : σ.val = if t.val % 17 = 0 then 8 else t.val / 17) (hb : b.val = t.val / 17)
    (hT : T.val = t.val % 17 * 256 + r.val) :
    Block.token (iblk m c 0 t) (iblk m c 1 t) (iblk m c 2 t) (iblk m c 3 t) (View.ld (iblk m c 4 t) r0_3)
        (View.ld (iblk m c 4 t) r0_7) (View.ld (iblk m c 4 t) r0_6) (View.ld (iblk m c 4 t) r0_9) r
      = Whole.token (m ((c : Thread nD τ).loc main_arg0)) (m ((c : Thread nD τ).loc main_arg1))
          (m ((c : Thread nD τ).loc main_arg2)) (m ((c : Thread nD τ).loc main_arg3))
          (m ((c : Thread nD τ).loc main_arg4)) σ b T := by
  unfold Block.token Whole.token
  congr 1 <;> funext k <;> pointwise <;> blk_ext [iblk, V, idx t]

/-- The weights' blocks are the whole arrays at every point. -/
theorem weights_eq (t : Fin cfg0.N) :
    Block.weights (iblk m c 5 t) (iblk m c 6 t) (iblk m c 7 t) (iblk m c 8 t) (iblk m c 9 t) (iblk m c 10 t)
      = Whole.weights (m ((c : Thread nD τ).loc main_arg5)) (m ((c : Thread nD τ).loc main_arg6))
          (m ((c : Thread nD τ).loc main_arg7)) (m ((c : Thread nD τ).loc main_arg8))
          (m ((c : Thread nD τ).loc main_arg9)) (m ((c : Thread nD τ).loc main_arg10)) := by
  unfold Block.weights Whole.weights
  congr 1 <;> funext k <;> first | blk_ext [iblk, V, idx t] | (funext d; blk_ext [iblk, V, idx t])

/-- The result array after the run. -/
theorem final : (dats m 0 c).arrAt 11 cfg0.N = result m c := by
  refine (dats m 0 c).arrAt_eq_of_covers 11 _ (by decide +kernel) fun t hf y => ?_
  blk_simp
  rw [after0_11]
  frame_out
  obtain ⟨r, d, rfl⟩ : ∃ (r : Fin 256) (d : Fin 1024), y = ix3 (0 : Fin 1) r d := by
    refine ⟨y 1, y 2, ?_⟩
    idx_ext
  have hN : t.val < 136 := t.isLt
  have hr := r.isLt
  have hT : t.val % 17 * 256 + r.val < 4352 := by omega
  rw [show ((View.whole main_v0).slice (win0_11.rect t)).emb (ix3 0 r d)
      = ix3 (⟨t.val / 17, by omega⟩ : Fin 8) (⟨t.val % 17 * 256 + r.val, hT⟩ : Fin 4352) d by
    blk_ext [idx t]]
  refine (Block.store_apply (gf := iblk m c 6 t) ..).trans ?_
  have hσ : (Whole.source (⟨t.val / 17, by omega⟩ : Fin 8) ⟨t.val % 17 * 256 + r.val, hT⟩).val
      = if t.val % 17 = 0 then 8 else t.val / 17 := by
    unfold Whole.source
    by_cases h : t.val % 17 = 0
    · rw [if_pos h, if_pos (by simp only []; omega)]
      rfl
    · rw [if_neg h, if_neg (by simp only []; omega)]
  exact (congrFun (congrArg₂ last (token_eq m c t r _ _ _ hσ rfl rfl) (weights_eq m c t)) d).trans
    (Whole.v104_apply (gf := m ((c : Thread nD τ).loc main_arg6)) ..).symm

end Layer.First

end
-- ==== Proof.lean ====
/-
  The proof of the claim: the frames are the generated runs; the value claims are proved in the modules imported here.
-/
module

public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Defs
public import proofs.«01_k».proof.Proof.Gen.Pre_all_finite
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_gate_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4Ideal.Value
public import proofs.«01_k».proof.Proof.Gen.Reference4Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Run
public import proofs.«01_k».proof.Proof.Gen.Reference4Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import Idealize.ShloMosaic.Adequacy
public import Idealize.ShloMosaic.Init
public import Idealize.ShloMosaic.Lib.Claim
public import proofs.«01_k».proof.Proof.FfnValue
public import proofs.«01_k».proof.Proof.AttnValue
public import proofs.«01_k».proof.Proof.InprojValue
public import proofs.«01_k».proof.Proof.AdaValue
public import proofs.«01_k».proof.Proof.FirstValue

@[expose] public section

noncomputable section

namespace Cert.Proof

open Idealize.ShloMosaic Idealize.ShloMosaic.TcCoe Idealize.SL.Sem

/-- The output projection with the feed-forward network: the kernel's result is the reference's, on all extended reals. -/
theorem ffn : Cert.algebraic_Kernel2Ideal_Reference2Ideal := by
  pair_intro
  · run_from Cert.Kernel2Ideal.Value.run_blocks m g
  · run_from Cert.Reference2Ideal.Value.run m' g'
    rw [Cert.Reference2Ideal.Read.val_main_v69_eq, Layer.Ffn.Value.final]
    simp only [hagree c]

/-- The differential attention: on real queries, keys, values and scalars the kernel's result is the reference's. -/
theorem attention : Cert.algebraic_KernelIdeal_ReferenceIdeal_pre_all_finite := by
  pair_intro
  · run_from Cert.KernelIdeal.Value.run_blocks m g
  · run_from Cert.ReferenceIdeal.Value.run m' g'
    rw [Cert.ReferenceIdeal.Read.val_main_v131_eq, Layer.Attn.Value.final m c (hpre c)]
    simp only [hagree c]

/-- The input projections with the spatial gate: each of the kernel's five results is the reference's. -/
theorem inproj : Cert.algebraic_Kernel3Ideal_Reference3Ideal_pre_gate_finite := by
  pair_intro
  · run_from Cert.Kernel3Ideal.Value.run_blocks m g
  · run_from Cert.Reference3Ideal.Value.run m' g'
    · rw [Cert.Reference3Ideal.Read.val_main_v287_eq, Layer.Inproj.Value.queries]
      simp only [hagree c]
    · rw [Cert.Reference3Ideal.Read.val_main_v288_eq, Layer.Inproj.Value.keys]
      simp only [hagree c]
    · rw [Cert.Reference3Ideal.Read.val_main_v291_eq, Layer.Inproj.Value.values]
      simp only [hagree c]
    · rw [Cert.Reference3Ideal.Read.val_main_v324_eq, Layer.Inproj.Value.recurrents]
      simp only [hagree c]
    · rw [Cert.Reference3Ideal.Read.val_main_v325_eq, Layer.Inproj.Value.gates m c (hpre c)]
      simp only [hagree c]

/-- The modulation: the kernel's result is the reference's, on all extended reals. -/
theorem ada : Cert.algebraic_Kernel4Ideal_Reference4Ideal := by
  pair_intro
  · run_from Cert.Kernel4Ideal.Value.run_blocks m g
  · run_from Cert.Reference4Ideal.Value.run m' g'
    rw [Cert.Reference4Ideal.Read.val_main_v20_eq, Layer.Ada.final]
    simp only [hagree c]

/-- The first layer's output projection with the network: the kernel's result is the reference's, on all extended reals. -/
theorem first : Cert.algebraic_Kernel5Ideal_Reference5Ideal := by
  pair_intro
  · run_from Cert.Kernel5Ideal.Value.run_blocks m g
  · run_from Cert.Reference5Ideal.Value.run m' g'
    rw [Cert.Reference5Ideal.Read.val_main_v104_eq, Layer.First.final]
    simp only [hagree c]

/-- The reference of the attention runs to the end and leaves its arguments as they were. -/
theorem frame_attention : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the network's reference. -/
theorem frame_ffn : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The same of the projections' reference. -/
theorem frame_inproj : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The same of the modulation's reference. -/
theorem frame_ada : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The same of the reference of the first layer's network. -/
theorem frame_first : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_all_finite.Gen.facts, Cert.Pre_gate_finite.Gen.facts,
  fun m ρ _ => Cert.Kernel.Gen.frame m ρ, fun m ρ _ => Cert.KernelIdeal.Gen.frame m ρ,
  fun m ρ _ => Cert.KernelIdeal.Gen.frame m ρ, frame_attention, fun m ρ _ => frame_attention m ρ trivial,
  fun m ρ _ => Cert.Kernel2.Gen.frame m ρ, fun m ρ _ => Cert.Kernel2Ideal.Gen.frame m ρ, frame_ffn,
  fun m ρ _ => Cert.Kernel3.Gen.frame m ρ, fun m ρ _ => Cert.Kernel3Ideal.Gen.frame m ρ,
  fun m ρ _ => Cert.Kernel3Ideal.Gen.frame m ρ, frame_inproj, fun m ρ _ => frame_inproj m ρ trivial,
  fun m ρ _ => Cert.Kernel4.Gen.frame m ρ, fun m ρ _ => Cert.Kernel4Ideal.Gen.frame m ρ, frame_ada,
  fun m ρ _ => Cert.Kernel5.Gen.frame m ρ, fun m ρ _ => Cert.Kernel5Ideal.Gen.frame m ρ, frame_first,
  trivial, attention, trivial, ffn, trivial, inproj, trivial, ada, trivial, first⟩

end Cert.Proof

end
